-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v23)) (v4 : (c : Dev Cert.Kernel2Ideal.nD) → Buf (Elt Ideal) ((c.tc : Thread Cert.Kernel2Ideal.nD Cert.Kernel2Ideal.τ).loc Cert.Kernel2Ideal.main_v16_1)) (v5 : (c : Dev Cert.Kernel2Ideal.nD) → Buf (Elt Ideal) ((c.tc : Thread Cert.Kernel2Ideal.nD Cert.Kernel2Ideal.τ).loc Cert.Kernel2Ideal.main_v24)) (v6 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v23) = v3 c
          ∧ r.2.mem ((c.tc : Thread Cert.Kernel2Ideal.nD Cert.Kernel2Ideal.τ).loc Cert.Kernel2Ideal.main_v16_1) = v4 c
          ∧ r.2.mem ((c.tc : Thread Cert.Kernel2Ideal.nD Cert.Kernel2Ideal.τ).loc Cert.Kernel2Ideal.main_v24) = v5 c
          ∧ r.2.mem ((c.tc : Thread Cert.Kernel2Ideal.nD Cert.Kernel2Ideal.τ).loc Cert.Kernel2Ideal.main_v25) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v22) = v4 c
          ∧ r.2.mem ((c.tc : Thread Cert.Reference2Ideal.nD Cert.Reference2Ideal.τ).loc Cert.Reference2Ideal.main_v24) = v5 c
          ∧ r.2.mem ((c.tc : Thread Cert.Reference2Ideal.nD Cert.Reference2Ideal.τ).loc Cert.Reference2Ideal.main_v26) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v24)) (v1 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S128x1x5896 : Shape := ⟨3, ![128, 1, 5896]⟩
abbrev S1x128x3x1536 : Shape := ⟨4, ![1, 128, 3, 1536]⟩
abbrev S1x128x4x128x128 : Shape := ⟨5, ![1, 128, 4, 128, 128]⟩
abbrev S1x4x1536 : Shape := ⟨3, ![1, 4, 1536]⟩
abbrev S1x4 : Shape := ⟨2, ![1, 4]⟩
abbrev S1x128 : Shape := ⟨2, ![1, 128]⟩
abbrev S128x5896 : Shape := ⟨2, ![128, 5896]⟩
abbrev S128x1792 : Shape := ⟨2, ![128, 1792]⟩
abbrev S128x8 : Shape := ⟨2, ![128, 8]⟩
abbrev S_ : Shape := ⟨0, ![]⟩
abbrev S128x248 : Shape := ⟨2, ![128, 248]⟩
abbrev S128x2048 : Shape := ⟨2, ![128, 2048]⟩
abbrev S128x6144 : Shape := ⟨2, ![128, 6144]⟩
abbrev S4x1536 : Shape := ⟨2, ![4, 1536]⟩
abbrev S4 : Shape := ⟨1, ![4]⟩
abbrev S128 : Shape := ⟨1, ![128]⟩
abbrev S1 : Shape := ⟨1, ![1]⟩
abbrev S2x128 : Shape := ⟨2, ![2, 128]⟩
abbrev S128x3x1536 : Shape := ⟨3, ![128, 3, 1536]⟩
abbrev S3x128x1536 : Shape := ⟨3, ![3, 128, 1536]⟩
abbrev S128x4x128x128 : Shape := ⟨4, ![128, 4, 128, 128]⟩
abbrev S128x512 : Shape := ⟨2, ![128, 512]⟩
abbrev S8x2048 : Shape := ⟨2, ![8, 2048]⟩
abbrev S8x128 : Shape := ⟨2, ![8, 128]⟩
abbrev S3x8x1536 : Shape := ⟨3, ![3, 8, 1536]⟩
abbrev S8x4x128x128 : Shape := ⟨4, ![8, 4, 128, 128]⟩
abbrev S8x512 : Shape := ⟨2, ![8, 512]⟩
abbrev S8x1536 : Shape := ⟨2, ![8, 1536]⟩
abbrev S1x1536 : Shape := ⟨2, ![1, 1536]⟩
abbrev S1x8x1536 : Shape := ⟨3, ![1, 8, 1536]⟩
abbrev S8 : Shape := ⟨1, ![8]⟩
abbrev S8x1 : Shape := ⟨2, ![8, 1]⟩
abbrev S128x128 : Shape := ⟨2, ![128, 128]⟩
abbrev S1x1 : Shape := ⟨2, ![1, 1]⟩
abbrev S128x1 : Shape := ⟨2, ![128, 1]⟩
abbrev S1x1x128x128 : Shape := ⟨4, ![1, 1, 128, 128]⟩

abbrev nBuf : Space → Nat
  | .hbm => 39
  | .vmem => 21
  | .smem => 0
  | _ => 0

abbrev bufTy : (tb : Table) → Fin (tcTables nBuf tb) → BufTy
  | .hbm, ⟨0, _⟩ => ⟨S128x1x5896, .f32⟩
  | .hbm, ⟨1, _⟩ => ⟨S1x128x3x1536, .f32⟩
  | .hbm, ⟨2, _⟩ => ⟨S1x128x4x128x128, .f32⟩
  | .hbm, ⟨3, _⟩ => ⟨S1x4x1536, .f32⟩
  | .hbm, ⟨4, _⟩ => ⟨S1x4, .f32⟩
  | .hbm, ⟨5, _⟩ => ⟨S1x4, .f32⟩
  | .hbm, ⟨6, _⟩ => ⟨S1x128, .f32⟩
  | .hbm, ⟨7, _⟩ => ⟨S128x5896, .f32⟩
  | .hbm, ⟨8, _⟩ => ⟨S128x1792, .f32⟩
  | .hbm, ⟨9, _⟩ => ⟨S128x8, .f32⟩
  | .hbm, ⟨10, _⟩ => ⟨S_, .f32⟩
  | .hbm, ⟨11, _⟩ => ⟨S128x248, .f32⟩
  | .hbm, ⟨12, _⟩ => ⟨S128x2048, .f32⟩
  | .hbm, ⟨13, _⟩ => ⟨S128x2048, .f32⟩
  | .hbm, ⟨14, _⟩ => ⟨S128x2048, .f32⟩
  | .hbm, ⟨15, _⟩ => ⟨S128x6144, .f32⟩
  | .hbm, ⟨16, _⟩ => ⟨S4x1536, .f32⟩
  | .hbm, ⟨17, _⟩ => ⟨S4, .f32⟩
  | .hbm, ⟨18, _⟩ => ⟨S_, .f32⟩
  | .hbm, ⟨19, _⟩ => ⟨S128, .f32⟩
  | .hbm, ⟨20, _⟩ => ⟨S_, .i32⟩
  | .hbm, ⟨21, _⟩ => ⟨S1, .i32⟩
  | .hbm, ⟨22, _⟩ => ⟨S128, .f32⟩
  | .hbm, ⟨23, _⟩ => ⟨S4, .f32⟩
  | .hbm, ⟨24, _⟩ => ⟨S_, .f32⟩
  | .hbm, ⟨25, _⟩ => ⟨S128, .f32⟩
  | .hbm, ⟨26, _⟩ => ⟨S_, .i32⟩
  | .hbm, ⟨27, _⟩ => ⟨S1, .i32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S2x128, .f32⟩
  | .hbm, ⟨32, _⟩ => ⟨S128, .f32⟩
  | .hbm, ⟨33, _⟩ => ⟨S1x128, .f32⟩
  | .hbm, ⟨34, _⟩ => ⟨S128x3x1536, .f32⟩
  | .hbm, ⟨35, _⟩ => ⟨S3x128x1536, .f32⟩
  | .hbm, ⟨36, _⟩ => ⟨S128x4x128x128, .f32⟩
  | .hbm, ⟨37, _⟩ => ⟨S128x512, .bf16⟩
  | .hbm, ⟨38, _⟩ => ⟨S128x4x128x128, .f32⟩
  | .local _ .vmem, ⟨0, _⟩ => ⟨S8x2048, .f32⟩
  | .local _ .vmem, ⟨1, _⟩ => ⟨S8x2048, .f32⟩
  | .local _ .vmem, ⟨2, _⟩ => ⟨S8x128, .f32⟩
  | .local _ .vmem, ⟨3, _⟩ => ⟨S8x128, .f32⟩
  | .local _ .vmem, ⟨4, _⟩ => ⟨S3x8x1536, .f32⟩
  | .local _ .vmem, ⟨5, _⟩ => ⟨S3x8x1536, .f32⟩
  | .local _ .vmem, ⟨6, _⟩ => ⟨S4x1536, .f32⟩
  | .local _ .vmem, ⟨7, _⟩ => ⟨S2x128, .f32⟩
  | .local _ .vmem, ⟨8, _⟩ => ⟨S1x128, .f32⟩
  | .local _ .vmem, ⟨9, _⟩ => ⟨S8x4x128x128, .f32⟩
  | .local _ .vmem, ⟨10, _⟩ => ⟨S8x4x128x128, .f32⟩
  | .local _ .vmem, ⟨11, _⟩ => ⟨S8x512, .bf16⟩
  | .local _ .vmem, ⟨12, _⟩ => ⟨S8x512, .bf16⟩
  | .local _ .vmem, ⟨13, _⟩ => ⟨S8x4x128x128, .f32⟩
  | .local _ .vmem, ⟨14, _⟩ => ⟨S8x4x128x128, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x128, .f32⟩
  | .local _ .vmem, ⟨19, _⟩ => ⟨S8x128, .f32⟩
  | .local _ .vmem, ⟨20, _⟩ => ⟨S8x512, .f32⟩
  | _, _ => ⟨S128x1x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x1x5896 : Shape := ⟨3, ![128, 1, 5896]⟩
abbrev S1x128x3x1536 : Shape := ⟨4, ![1, 128, 3, 1536]⟩
abbrev S1x128x4x128x128 : Shape := ⟨5, ![1, 128, 4, 128, 128]⟩
abbrev S1x4x1536 : Shape := ⟨3, ![1, 4, 1536]⟩
abbrev S1x4 : Shape := ⟨2, ![1, 4]⟩
abbrev S1x128 : Shape := ⟨2, ![1, 128]⟩
abbrev S128x1x1536 : Shape := ⟨3, ![128, 1, 1536]⟩
abbrev S128x3x1536 : Shape := ⟨3, ![128, 3, 1536]⟩
abbrev S4x1536 : Shape := ⟨2, ![4, 1536]⟩
abbrev S128x4x1536 : Shape := ⟨3, ![128, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x1x512 : Shape := ⟨3, ![128, 1, 512]⟩
abbrev S128x1x4x128 : Shape := ⟨4, ![128, 1, 4, 128]⟩
abbrev S128x1x4 : Shape := ⟨3, ![128, 1, 4]⟩
abbrev S128x1x4x1 : Shape := ⟨4, ![128, 1, 4, 1]⟩
abbrev S4 : Shape := ⟨1, ![4]⟩
abbrev S1x1x4 : Shape := ⟨3, ![1, 1, 4]⟩
abbrev S128x4x128x128 : Shape := ⟨4, ![128, 4, 128, 128]⟩
abbrev S128x4x128 : Shape := ⟨3, ![128, 4, 128]⟩
abbrev S128x4 : Shape := ⟨2, ![128, 4]⟩
abbrev S128x4x1x1 : Shape := ⟨4, ![128, 4, 1, 1]⟩
abbrev S128x4x1 : Shape := ⟨3, ![128, 4, 1]⟩
abbrev S128x4x128x1 : Shape := ⟨4, ![128, 4, 128, 1]⟩
abbrev S128x4x1x128 : Shape := ⟨4, ![128, 4, 1, 128]⟩
abbrev S128 : Shape := ⟨1, ![128]⟩
abbrev S1x1x1x128 : Shape := ⟨4, ![1, 1, 1, 128]⟩
abbrev S128x512 : Shape := ⟨2, ![128, 512]⟩

abbrev nBuf : Space → Nat
  | .hbm => 164
  | .vmem => 0
  | .smem => 0
  | _ => 0

abbrev hbmTy0_0 (i : Nat) : BufTy := match i % 128 with
  | 0 => ⟨S128x1x5896, .f32⟩
  | 1 => ⟨S1x128x3x1536, .f32⟩
  | 2 => ⟨S1x128x4x128x128, .f32⟩
  | 3 => ⟨S1x4x1536, .f32⟩
  | 4 => ⟨S1x4, .f32⟩
  | 5 => ⟨S1x4, .f32⟩
  | 6 => ⟨S1x128, .f32⟩
  | 7 => ⟨S128x1x1536, .f32⟩
  | 8 => ⟨S128x3x1536, .f32⟩
  | 9 => ⟨S4x1536, .f32⟩
  | 10 => ⟨S128x4x1536, .f32⟩
  | 11 => ⟨S128x1x1536, .f32⟩
  | 12 => ⟨S1x1536, .f32⟩
  | 13 => ⟨S1536, .f32⟩
  | 14 => ⟨S1x1x1536, .f32⟩
  | 15 => ⟨S128x1x1536, .f32⟩
  | 16 => ⟨S128x1x1536, .f32⟩
  | 17 => ⟨S128x1x1536, .f32⟩
  | 18 => ⟨S1x1536, .f32⟩
  | 19 => ⟨S1536, .f32⟩
  | 20 => ⟨S1x1x1536, .f32⟩
  | 21 => ⟨S128x1x1536, .f32⟩
  | 22 => ⟨S128x1x1536, .f32⟩
  | 23 => ⟨S128x1x1536, .f32⟩
  | 24 => ⟨S128x1x1536, .f32⟩
  | 25 => ⟨S1x1536, .f32⟩
  | 26 => ⟨S1536, .f32⟩
  | 27 => ⟨S1x1x1536, .f32⟩
  | 28 => ⟨S128x1x1536, .f32⟩
  | 29 => ⟨S128x1x1536, .f32⟩
  | 30 => ⟨S128x1x1536, .f32⟩
  | 31 => ⟨S128x1x1536, .f32⟩
  | 32 => ⟨S1x1536, .f32⟩
  | 33 => ⟨S1536, .f32⟩
  | 34 => ⟨S1x1x1536, .f32⟩
  | 35 => ⟨S128x1x1536, .f32⟩
  | 36 => ⟨S128x1x1536, .f32⟩
  | 37 => ⟨S128x1x1536, .f32⟩
  | 38 => ⟨S128x1x1536, .f32⟩
  | 39 => ⟨S128x1x1536, .f32⟩
  | 40 => ⟨S_, .f32⟩
  | 41 => ⟨S128x1x1536, .f32⟩
  | 42 => ⟨S128x1x1536, .f32⟩
  | 43 => ⟨S_, .f32⟩
  | 44 => ⟨S128x1x1536, .f32⟩
  | 45 => ⟨S128x1x1536, .f32⟩
  | 46 => ⟨S128x1x1536, .f32⟩
  | 47 => ⟨S128x1x512, .f32⟩
  | 48 => ⟨S128x1x4x128, .f32⟩
  | 49 => ⟨S128x1x4x128, .f32⟩
  | 50 => ⟨S_, .f32⟩
  | 51 => ⟨S128x1x4, .f32⟩
  | 52 => ⟨S128x1x4x1, .f32⟩
  | 53 => ⟨S_, .f32⟩
  | 54 => ⟨S128x1x4x1, .f32⟩
  | 55 => ⟨S128x1x4x1, .f32⟩
  | 56 => ⟨S128x1x4x1, .f32⟩
  | 57 => ⟨S128x1x4x128, .f32⟩
  | 58 => ⟨S128x1x4x128, .f32⟩
  | 59 => ⟨S_, .f32⟩
  | 60 => ⟨S128x1x4x128, .f32⟩
  | 61 => ⟨S128x1x4x128, .f32⟩
  | 62 => ⟨S128x1x512, .f32⟩
  | 63 => ⟨S128x1x4x128, .f32⟩
  | 64 => ⟨S128x1x4x128, .f32⟩
  | 65 => ⟨S_, .f32⟩
  | 66 => ⟨S128x1x4, .f32⟩
  | 67 => ⟨S128x1x4x1, .f32⟩
  | 68 => ⟨S_, .f32⟩
  | 69 => ⟨S128x1x4x1, .f32⟩
  | 70 => ⟨S128x1x4x1, .f32⟩
  | 71 => ⟨S128x1x4x1, .f32⟩
  | 72 => ⟨S128x1x4x128, .f32⟩
  | 73 => ⟨S128x1x4x128, .f32⟩
  | 74 => ⟨S128x1x512, .f32⟩
  | 75 => ⟨S128x1x4x128, .f32⟩
  | 76 => ⟨S128x1x4, .f32⟩
  | 77 => ⟨S128x1x4, .f32⟩
  | 78 => ⟨S128x1x4, .f32⟩
  | 79 => ⟨S_, .f32⟩
  | 80 => ⟨S128x1x4, .f32⟩
  | 81 => ⟨S128x1x4, .f32⟩
  | 82 => ⟨S_, .f32⟩
  | 83 => ⟨S128x1x4, .f32⟩
  | 84 => ⟨S128x1x4, .f32⟩
  | 85 => ⟨S4, .f32⟩
  | 86 => ⟨S4, .f32⟩
  | 87 => ⟨S4, .f32⟩
  | 88 => ⟨S128x1x4, .f32⟩
  | 89 => ⟨S4, .f32⟩
  | 90 => ⟨S1x1x4, .f32⟩
  | 91 => ⟨S128x1x4, .f32⟩
  | 92 => ⟨S128x1x4, .f32⟩
  | 93 => ⟨S_, .f32⟩
  | 94 => ⟨S128x1x4, .f32⟩
  | 95 => ⟨S128x1x4, .f32⟩
  | 96 => ⟨S128x1x4, .f32⟩
  | 97 => ⟨S128x1x4, .f32⟩
  | 98 => ⟨S128x1x4, .i1⟩
  | 99 => ⟨S128x1x4, .f32⟩
  | 100 => ⟨S128x1x4, .f32⟩
  | 101 => ⟨S128x1x4, .f32⟩
  | 102 => ⟨S128x1x4, .f32⟩
  | 103 => ⟨S128x1x4, .f32⟩
  | 104 => ⟨S128x1x4, .f32⟩
  | 105 => ⟨S128x1x4, .f32⟩
  | 106 => ⟨S128x1x4, .f32⟩
  | 107 => ⟨S1x1x4, .f32⟩
  | 108 => ⟨S128x1x4, .f32⟩
  | 109 => ⟨S128x1x4, .f32⟩
  | 110 => ⟨S128x4x128x128, .f32⟩
  | 111 => ⟨S128x4x128, .f32⟩
  | 112 => ⟨S128x4x128, .f32⟩
  | 113 => ⟨S128x4x128, .f32⟩
  | 114 => ⟨S128x4, .f32⟩
  | 115 => ⟨S128x4, .f32⟩
  | 116 => ⟨S128x4, .f32⟩
  | 117 => ⟨S128x4x1x1, .f32⟩
  | 118 => ⟨S128x4x128x128, .f32⟩
  | 119 => ⟨S128x4x128x128, .f32⟩
  | 120 => ⟨S128x4x128, .f32⟩
  | 121 => ⟨S128x4x128, .f32⟩
  | 122 => ⟨S128x4x1, .f32⟩
  | 123 => ⟨S128x4x128, .f32⟩
  | 124 => ⟨S128x4x128, .f32⟩
  | 125 => ⟨S128x4x128x1, .f32⟩
  | 126 => ⟨S128x4x1x128, .f32⟩
  | 127 => ⟨S128x4x128x128, .f32⟩
  | _ => ⟨S128x1x5896, .f32⟩

abbrev hbmTy0_1 (i : Nat) : BufTy := match i % 128 with
  | 0 => ⟨S128x4x128x128, .f32⟩
  | 1 => ⟨S128x4x128x128, .f32⟩
  | 2 => ⟨S128x4x128x128, .f32⟩
  | 3 => ⟨S128x4x128, .f32⟩
  | 4 => ⟨S128x1x512, .f32⟩
  | 5 => ⟨S128x1x4x128, .f32⟩
  | 6 => ⟨S128x1x4x128, .f32⟩
  | 7 => ⟨S128, .f32⟩
  | 8 => ⟨S128x1x4x128, .f32⟩
  | 9 => ⟨S_, .f32⟩
  | 10 => ⟨S128x1x4, .f32⟩
  | 11 => ⟨S128x1x4x1, .f32⟩
  | 12 => ⟨S_, .f32⟩
  | 13 => ⟨S128x1x4x1, .f32⟩
  | 14 => ⟨S128x1x4x1, .f32⟩
  | 15 => ⟨S_, .f32⟩
  | 16 => ⟨S128x1x4x1, .f32⟩
  | 17 => ⟨S128x1x4x1, .f32⟩
  | 18 => ⟨S128x1x4x1, .f32⟩
  | 19 => ⟨S128x1x4x128, .f32⟩
  | 20 => ⟨S128x1x4x128, .f32⟩
  | 21 => ⟨S1x1x1x128, .f32⟩
  | 22 => ⟨S128x1x4x128, .f32⟩
  | 23 => ⟨S128x1x4x128, .f32⟩
  | 24 => ⟨S128x1x4x128, .f32⟩
  | 25 => ⟨S128x1x4x128, .f32⟩
  | 26 => ⟨S_, .f32⟩
  | 27 => ⟨S128x1x4x128, .f32⟩
  | 28 => ⟨S128x1x4x128, .f32⟩
  | 29 => ⟨S_, .f32⟩
  | 30 => ⟨S128x1x4x128, .f32⟩
  | 31 => ⟨S128x1x4x128, .f32⟩
  | 32 => ⟨S128x1x4x128, .f32⟩
  | 33 => ⟨S128x1x4x128, .f32⟩
  | 34 => ⟨S128x512, .f32⟩
  | 35 => ⟨S128x512, .bf16⟩
  | _ => ⟨S128x1x5896, .f32⟩

abbrev hbmTy (i : Nat) : BufTy := match i / 128 with
  | 0 => hbmTy0_0 i
  | 1 => hbmTy0_1 i
  | _ => ⟨S128x1x5896, .f32⟩

abbrev bufTy : (tb : Table) → Fin (tcTables nBuf tb) → BufTy
  | .hbm, ⟨i, _⟩ => hbmTy i
  | _, _ => ⟨S128x1x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_6 : Ref sig .tc := ⟨.hbm, 137, rfl⟩
abbrev main_v102 : Ref sig .tc := ⟨.hbm, 138, rfl⟩
abbrev main_v103 : Ref sig .tc := ⟨.hbm, 139, rfl⟩
abbrev main_cst_7 : Ref sig .tc := ⟨.hbm, 140, rfl⟩
abbrev main_v104 : Ref sig .tc := ⟨.hbm, 141, rfl⟩
abbrev main_v105 : Ref sig .tc := ⟨.hbm, 142, rfl⟩
abbrev main_cst_8 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_call2_v0 : Ref sig .tc := ⟨.hbm, 152, rfl⟩
abbrev main_call2_v1 : Ref sig .tc := ⟨.hbm, 153, rfl⟩
abbrev main_call2_cst : Ref sig .tc := ⟨.hbm, 154, rfl⟩
abbrev main_call2_v2 : Ref sig .tc := ⟨.hbm, 155, rfl⟩
abbrev main_call2_v3 : Ref sig .tc := ⟨.hbm, 156, rfl⟩
abbrev main_call2_cst_0 : Ref sig .tc := ⟨.hbm, 157, rfl⟩
abbrev main_call2_v4 : Ref sig .tc := ⟨.hbm, 158, rfl⟩
abbrev main_call2_v5 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5896 : Shape := ⟨3, ![1, 1024, 5896]⟩
abbrev S1024x5896 : Shape := ⟨2, ![1024, 5896]⟩
abbrev S1024x1792 : Shape := ⟨2, ![1024, 1792]⟩
abbrev S1024x8 : Shape := ⟨2, ![1024, 8]⟩
abbrev S_ : Shape := ⟨0, ![]⟩
abbrev S1024x248 : Shape := ⟨2, ![1024, 248]⟩
abbrev S1024x2048 : Shape := ⟨2, ![1024, 2048]⟩
abbrev S1024x6144 : Shape := ⟨2, ![1024, 6144]⟩
abbrev S8x1024 : Shape := ⟨2, ![8, 1024]⟩
abbrev S1024 : Shape := ⟨1, ![1024]⟩
abbrev S16384x1024 : Shape := ⟨2, ![16384, 1024]⟩
abbrev S16384x6144 : Shape := ⟨2, ![16384, 6144]⟩
abbrev S8x16384 : Shape := ⟨2, ![8, 16384]⟩
abbrev S1024x1024 : Shape := ⟨2, ![1024, 1024]⟩
abbrev S1024x1 : Shape := ⟨2, ![1024, 1]⟩
abbrev S8x2048x6144 : Shape := ⟨3, ![8, 2048, 6144]⟩
abbrev S8x3x1536 : Shape := ⟨3, ![8, 3, 1536]⟩
abbrev S8x1x1792 : Shape := ⟨3, ![8, 1, 1792]⟩
abbrev S8x2048x2048 : Shape := ⟨3, ![8, 2048, 2048]⟩
abbrev S8x2048x8 : Shape := ⟨3, ![8, 2048, 8]⟩
abbrev S8x2048x1792 : Shape := ⟨3, ![8, 2048, 1792]⟩
abbrev S1x8x3x1536 : Shape := ⟨4, ![1, 8, 3, 1536]⟩
abbrev S1x8x1x1792 : Shape := ⟨4, ![1, 8, 1, 1792]⟩

abbrev nBuf : Space → Nat
  | .hbm => 31
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5896, .f32⟩
  | .hbm, ⟨3, _⟩ => ⟨S1024x5896, .f32⟩
  | .hbm, ⟨4, _⟩ => ⟨S1024x1792, .f32⟩
  | .hbm, ⟨5, _⟩ => ⟨S1024x8, .f32⟩
  | .hbm, ⟨6, _⟩ => ⟨S_, .f32⟩
  | .hbm, ⟨7, _⟩ => ⟨S1024x248, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x6144, .f32⟩
  | .hbm, ⟨12, _⟩ => ⟨S1024x6144, .bf16⟩
  | .hbm, ⟨13, _⟩ => ⟨S1024x5896, .f32⟩
  | .hbm, ⟨14, _⟩ => ⟨S1024x8, .f32⟩
  | .hbm, ⟨15, _⟩ => ⟨S8x1024, .f32⟩
  | .hbm, ⟨16, _⟩ => ⟨S8x1024, .bf16⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x6144, .f32⟩
  | .hbm, ⟨21, _⟩ => ⟨S8x16384, .f32⟩
  | .hbm, ⟨22, _⟩ => ⟨S8x2048x6144, .f32⟩
  | .hbm, ⟨23, _⟩ => ⟨S8x3x1536, .f32⟩
  | .hbm, ⟨24, _⟩ => ⟨S8x1x1792, .f32⟩
  | .hbm, ⟨25, _⟩ => ⟨S8x2048x2048, .f32⟩
  | .hbm, ⟨26, _⟩ => ⟨S8x2048x8, .f32⟩
  | .hbm, ⟨27, _⟩ => ⟨S8x2048x1792, .f32⟩
  | .hbm, ⟨28, _⟩ => ⟨S8x2048x2048, .f32⟩
  | .hbm, ⟨29, _⟩ => ⟨S1x8x3x1536, .f32⟩
  | .hbm, ⟨30, _⟩ => ⟨S1x8x1x1792, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S8x1024, .bf16⟩
  | .local _ .vmem, ⟨6, _⟩ => ⟨S1024x2048, .f32⟩
  | .local _ .vmem, ⟨7, _⟩ => ⟨S1024x2048, .f32⟩
  | .local _ .vmem, ⟨8, _⟩ => ⟨S8x1024, .f32⟩
  | .local _ .vmem, ⟨9, _⟩ => ⟨S8x1024, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S1x1024 : Shape := ⟨2, ![1, 1024]⟩
abbrev S1x1024x5896 : Shape := ⟨3, ![1, 1024, 5896]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5896 : Shape := ⟨2, ![1024, 5896]⟩
abbrev S8x2048x5896 : Shape := ⟨3, ![8, 2048, 5896]⟩
abbrev S8x2048x2048 : Shape := ⟨3, ![8, 2048, 2048]⟩
abbrev S8x2048x8 : Shape := ⟨3, ![8, 2048, 8]⟩
abbrev S8x2048x1792 : Shape := ⟨3, ![8, 2048, 1792]⟩
abbrev S16384x8 : Shape := ⟨2, ![16384, 8]⟩
abbrev S8x16384 : Shape := ⟨2, ![8, 16384]⟩
abbrev S8x3x1536 : Shape := ⟨3, ![8, 3, 1536]⟩
abbrev S1x8x3x1536 : Shape := ⟨4, ![1, 8, 3, 1536]⟩
abbrev S8x1x1792 : Shape := ⟨3, ![8, 1, 1792]⟩
abbrev S1x8x1x1792 : Shape := ⟨4, ![1, 8, 1, 1792]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5896, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x5896, .f32⟩
  | .hbm, ⟨21, _⟩ => ⟨S8x2048x5896, .f32⟩
  | .hbm, ⟨22, _⟩ => ⟨S8x2048x2048, .f32⟩
  | .hbm, ⟨23, _⟩ => ⟨S8x2048x8, .f32⟩
  | .hbm, ⟨24, _⟩ => ⟨S8x2048x1792, .f32⟩
  | .hbm, ⟨25, _⟩ => ⟨S8x2048x2048, .f32⟩
  | .hbm, ⟨26, _⟩ => ⟨S8x2048x8, .f32⟩
  | .hbm, ⟨27, _⟩ => ⟨S16384x8, .f32⟩
  | .hbm, ⟨28, _⟩ => ⟨S8x16384, .f32⟩
  | .hbm, ⟨29, _⟩ => ⟨S8x3x1536, .f32⟩
  | .hbm, ⟨30, _⟩ => ⟨S1x8x3x1536, .f32⟩
  | .hbm, ⟨31, _⟩ => ⟨S8x1x1792, .f32⟩
  | .hbm, ⟨32, _⟩ => ⟨S1x8x1x1792, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x2048x5896 : Shape := ⟨3, ![8, 2048, 5896]⟩
abbrev S1x512x1024 : Shape := ⟨3, ![1, 512, 1024]⟩
abbrev S1x1024x1024 : Shape := ⟨3, ![1, 1024, 1024]⟩
abbrev S16384x5896 : Shape := ⟨2, ![16384, 5896]⟩
abbrev S16384x1792 : Shape := ⟨2, ![16384, 1792]⟩
abbrev S16384x8 : Shape := ⟨2, ![16384, 8]⟩
abbrev S_ : Shape := ⟨0, ![]⟩
abbrev S16384x248 : Shape := ⟨2, ![16384, 248]⟩
abbrev S16384x2048 : Shape := ⟨2, ![16384, 2048]⟩
abbrev S16384x6144 : Shape := ⟨2, ![16384, 6144]⟩
abbrev S512x1024 : Shape := ⟨2, ![512, 1024]⟩
abbrev S1024x1024 : Shape := ⟨2, ![1024, 1024]⟩
abbrev S16384x1024 : Shape := ⟨2, ![16384, 1024]⟩
abbrev S16384x512 : Shape := ⟨2, ![16384, 512]⟩
abbrev S1024x512 : Shape := ⟨2, ![1024, 512]⟩
abbrev S1024x2048 : Shape := ⟨2, ![1024, 2048]⟩

abbrev nBuf : Space → Nat
  | .hbm => 26
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x5896, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S16384x5896, .f32⟩
  | .hbm, ⟨8, _⟩ => ⟨S16384x1792, .f32⟩
  | .hbm, ⟨9, _⟩ => ⟨S16384x8, .f32⟩
  | .hbm, ⟨10, _⟩ => ⟨S_, .f32⟩
  | .hbm, ⟨11, _⟩ => ⟨S16384x248, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x6144, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S16384x1024, .f32⟩
  | .hbm, ⟨23, _⟩ => ⟨S16384x512, .bf16⟩
  | .hbm, ⟨24, _⟩ => ⟨S16384x512, .bf16⟩
  | .hbm, ⟨25, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .f32⟩
  | .local _ .vmem, ⟨7, _⟩ => ⟨S1024x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S8x2048x5896 : Shape := ⟨3, ![8, 2048, 5896]⟩
abbrev S1x512x1024 : Shape := ⟨3, ![1, 512, 1024]⟩
abbrev S1x1024x1024 : Shape := ⟨3, ![1, 1024, 1024]⟩
abbrev S_ : Shape := ⟨0, ![]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x5896, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x512, .f32⟩
  | .hbm, ⟨26, _⟩ => ⟨S512x1024, .f32⟩
  | .hbm, ⟨27, _⟩ => ⟨S8x2048x1024, .f32⟩
  | .hbm, ⟨28, _⟩ => ⟨S8x2048x1024, .f32⟩
  | .hbm, ⟨29, _⟩ => ⟨S8x2048x512, .f32⟩
  | .hbm, ⟨30, _⟩ => ⟨S512x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x1024, .f32⟩
  | .hbm, ⟨35, _⟩ => ⟨S8x2048x1024, .f32⟩
  | .hbm, ⟨36, _⟩ => ⟨S8x2048x1024, .f32⟩
  | .hbm, ⟨37, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel4.lean ====
abbrev S128x1x1024 : Shape := ⟨3, ![128, 1, 1024]⟩
abbrev S1x1024 : Shape := ⟨2, ![1, 1024]⟩
abbrev S1x1024x5896 : Shape := ⟨3, ![1, 1024, 5896]⟩
abbrev S1x128x3x1536 : Shape := ⟨4, ![1, 128, 3, 1536]⟩
abbrev S1024x5896 : Shape := ⟨2, ![1024, 5896]⟩
abbrev S1024x1792 : Shape := ⟨2, ![1024, 1792]⟩
abbrev S1024x8 : Shape := ⟨2, ![1024, 8]⟩
abbrev S_ : Shape := ⟨0, ![]⟩
abbrev S1024x248 : Shape := ⟨2, ![1024, 248]⟩
abbrev S1024x2048 : Shape := ⟨2, ![1024, 2048]⟩
abbrev S1024x6144 : Shape := ⟨2, ![1024, 6144]⟩
abbrev S8x1024 : Shape := ⟨2, ![8, 1024]⟩
abbrev S1024 : Shape := ⟨1, ![1024]⟩
abbrev S128x1024 : Shape := ⟨2, ![128, 1024]⟩
abbrev S128x6144 : Shape := ⟨2, ![128, 6144]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S128x3x1536 : Shape := ⟨3, ![128, 3, 1536]⟩
abbrev S128x2x1536 : Shape := ⟨3, ![128, 2, 1536]⟩
abbrev S128x1536 : Shape := ⟨2, ![128, 1536]⟩
abbrev S128x1x1536 : Shape := ⟨3, ![128, 1, 1536]⟩
abbrev S128x1792 : Shape := ⟨2, ![128, 1792]⟩
abbrev S128x1x1792 : Shape := ⟨3, ![128, 1, 1792]⟩
abbrev S1x128x1x1792 : Shape := ⟨4, ![1, 128, 1, 1792]⟩

abbrev nBuf : Space → Nat
  | .hbm => 32
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5896, .f32⟩
  | .hbm, ⟨3, _⟩ => ⟨S1x128x3x1536, .f32⟩
  | .hbm, ⟨4, _⟩ => ⟨S1024x5896, .f32⟩
  | .hbm, ⟨5, _⟩ => ⟨S1024x1792, .f32⟩
  | .hbm, ⟨6, _⟩ => ⟨S1024x8, .f32⟩
  | .hbm, ⟨7, _⟩ => ⟨S_, .f32⟩
  | .hbm, ⟨8, _⟩ => ⟨S1024x248, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x6144, .f32⟩
  | .hbm, ⟨13, _⟩ => ⟨S1024x6144, .bf16⟩
  | .hbm, ⟨14, _⟩ => ⟨S1024x5896, .f32⟩
  | .hbm, ⟨15, _⟩ => ⟨S1024x8, .f32⟩
  | .hbm, ⟨16, _⟩ => ⟨S8x1024, .f32⟩
  | .hbm, ⟨17, _⟩ => ⟨S8x1024, .bf16⟩
  | .hbm, ⟨18, _⟩ => ⟨S1024, .f32⟩
  | .hbm, ⟨19, _⟩ => ⟨S1x1024, .f32⟩
  | .hbm, ⟨20, _⟩ => ⟨S128x1024, .f32⟩
  | .hbm, ⟨21, _⟩ => ⟨S128x6144, .f32⟩
  | .hbm, ⟨22, _⟩ => ⟨S8x128, .f32⟩
  | .hbm, ⟨23, _⟩ => ⟨S128x3x1536, .f32⟩
  | .hbm, ⟨24, _⟩ => ⟨S128x2x1536, .f32⟩
  | .hbm, ⟨25, _⟩ => ⟨S128x1536, .f32⟩
  | .hbm, ⟨26, _⟩ => ⟨S128x1x1536, .f32⟩
  | .hbm, ⟨27, _⟩ => ⟨S128x3x1536, .f32⟩
  | .hbm, ⟨28, _⟩ => ⟨S128x1792, .f32⟩
  | .hbm, ⟨29, _⟩ => ⟨S128x1x1792, .f32⟩
  | .hbm, ⟨30, _⟩ => ⟨S1x128x3x1536, .f32⟩
  | .hbm, ⟨31, _⟩ => ⟨S1x128x1x1792, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S1024x2048, .bf16⟩
  | .local _ .vmem, ⟨4, _⟩ => ⟨S8x1024, .bf16⟩
  | .local _ .vmem, ⟨5, _⟩ => ⟨S128x2048, .f32⟩
  | .local _ .vmem, ⟨6, _⟩ => ⟨S128x2048, .f32⟩
  | .local _ .vmem, ⟨7, _⟩ => ⟨S8x128, .f32⟩
  | .local _ .vmem, ⟨8, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference4Ideal.lean ====
abbrev S128x1x1024 : Shape := ⟨3, ![128, 1, 1024]⟩
abbrev S1x1024 : Shape := ⟨2, ![1, 1024]⟩
abbrev S1x1024x5896 : Shape := ⟨3, ![1, 1024, 5896]⟩
abbrev S1x128x3x1536 : Shape := ⟨4, ![1, 128, 3, 1536]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5896 : Shape := ⟨2, ![1024, 5896]⟩
abbrev S128x1x5896 : Shape := ⟨3, ![128, 1, 5896]⟩
abbrev S128x3x1536 : Shape := ⟨3, ![128, 3, 1536]⟩
abbrev S128x1x1536 : Shape := ⟨3, ![128, 1, 1536]⟩
abbrev S128x4x1536 : Shape := ⟨3, ![128, 4, 1536]⟩
abbrev S128x1x1792 : Shape := ⟨3, ![128, 1, 1792]⟩
abbrev S1x128x1x1792 : Shape := ⟨4, ![1, 128, 1, 1792]⟩

abbrev nBuf : Space → Nat
  | .hbm => 30
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5896, .f32⟩
  | .hbm, ⟨3, _⟩ => ⟨S1x128x3x1536, .f32⟩
  | .hbm, ⟨4, _⟩ => ⟨S1024, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S1024x5896, .f32⟩
  | .hbm, ⟨22, _⟩ => ⟨S128x1x5896, .f32⟩
  | .hbm, ⟨23, _⟩ => ⟨S128x3x1536, .f32⟩
  | .hbm, ⟨24, _⟩ => ⟨S128x1x1536, .f32⟩
  | .hbm, ⟨25, _⟩ => ⟨S128x4x1536, .f32⟩
  | .hbm, ⟨26, _⟩ => ⟨S128x3x1536, .f32⟩
  | .hbm, ⟨27, _⟩ => ⟨S1x128x3x1536, .f32⟩
  | .hbm, ⟨28, _⟩ => ⟨S128x1x1792, .f32⟩
  | .hbm, ⟨29, _⟩ => ⟨S1x128x1x1792, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.DnTile.lean ====
module

public import proofs.«01_k».proof.Proof.Gen.KernelIdeal.Value
public import Idealize.ShloMosaic.Lib.Pointwise
public import Idealize.ShloMosaic.Lib.Pipeline.ValueKit
@[expose] public section

set_option maxRecDepth 16384
noncomputable section
namespace Cert.KernelIdeal.Dn
open Cert.KernelIdeal Cert.KernelIdeal.Gen
open Idealize.ShloMosaic Idealize.ShloMosaic.TcCoe Idealize.SL.Sem

/-- The state of one head after a token: the decayed state plus the outer product of the key with the corrected value. -/
def stepState (k v : Fin 128 → EReal) (g b : EReal) (s : Fin 128 → Fin 128 → EReal) (a c : Fin 128) : EReal :=
  s a c * Ideal.exp g + k a * ((v c - ∑ κ, s κ c * Ideal.exp g * k κ) * b)

/-- The output of one head: the new state read with the query. -/
def stepOut (k q v : Fin 128 → EReal) (g b : EReal) (s : Fin 128 → Fin 128 → EReal) (c : Fin 128) : EReal :=
  ∑ a, stepState k v g b s a c * q a

theorem eye_sum (r : Fin 128 → EReal) (a : Fin 128) :
    ∑ l : Fin 128, Scalar.select (IntOp.cmpi CmpIPredicate.eq (BitVec.ofNat 32 a) (BitVec.ofNat 32 l)) (r l) (0 : EReal) = r a := by
  have h : ∀ l : Fin 128, Scalar.select (IntOp.cmpi CmpIPredicate.eq (BitVec.ofNat 32 a) (BitVec.ofNat 32 l)) (r l) (0 : EReal) = if a = l then r l else 0 := by
    intro l
    by_cases e : a = l
    · subst e; simp [Scalar.select, IntOp.cmpi]
    · have : ¬ (BitVec.ofNat 32 a.val = BitVec.ofNat 32 l.val) := by
        intro hh
        have := congrArg BitVec.toNat hh
        simp only [BitVec.toNat_ofNat] at this
        apply e; apply Fin.ext; omega
      simp [Scalar.select, IntOp.cmpi, e, beq_eq_false_iff_ne.mpr this]
  simp only [h, Finset.sum_ite_eq, Finset.mem_univ, if_true]

theorem state_apply (kr vr : Vec Ideal S1x128 .f32) (gr br : Vec Ideal S1x1 .f32) (sr : Vec Ideal S1x1x128x128 .f32) (x : S1x1x128x128.Idx) :
    k0_pay26 (F := Ideal) (k0_pay20 kr) (k0_pay22 gr sr) (k0_pay23 kr vr gr sr) (k0_pay24 br) x
      = stepState (fun c => kr (ix2 0 c)) (fun c => vr (ix2 0 c)) (gr (ix2 0 0)) (br (ix2 0 0)) (fun a c => sr (ix4 0 0 a c)) (x 2) (x 3) := by
  idx_vars x
  unfold stepState
  pointwise [k0_pay26, k0_pay25, k0_pay20, k0_pay22, k0_pay23, k0_pay24, k0_pay19]
  simp only [eye_sum (fun l => kr (ix2 0 l))]

theorem out_apply (kr qr vr : Vec Ideal S1x128 .f32) (gr br : Vec Ideal S1x1 .f32) (sr : Vec Ideal S1x1x128x128 .f32) (x : S1x128.Idx) :
    k0_pay27 (F := Ideal) (k0_pay20 kr) (k0_pay21 qr) (k0_pay22 gr sr) (k0_pay23 kr vr gr sr) (k0_pay24 br) x
      = stepOut (fun c => kr (ix2 0 c)) (fun c => qr (ix2 0 c)) (fun c => vr (ix2 0 c)) (gr (ix2 0 0)) (br (ix2 0 0)) (fun a c => sr (ix4 0 0 a c)) (x 1) := by
  idx_vars x
  unfold stepOut stepState
  pointwise [k0_pay27, k0_pay25, k0_pay20, k0_pay21, k0_pay22, k0_pay23, k0_pay24, k0_pay19]
  simp only [eye_sum (fun l => kr (ix2 0 l)), eye_sum (fun l => qr (ix2 0 l))]

/-- A row divided by its length. -/
def unit1 (u : Fin 128 → EReal) (c : Fin 128) : EReal :=
  u c * Ideal.rsqrt (∑ l, u l * u l + Ideal.ofBits .f32 897988541#32)

/-- The 128 entries from column `o` of row `r` of the features. -/
def piece (u : FVec Ideal S8x1536 .f32) (r : Fin 8) (o : Nat) (ho : o ≤ 1408) (c : Fin 128) : EReal :=
  u (ix2 r ⟨o + c.val, by omega⟩)

/-- Query, key and value of token `r` and head `h`. -/
def qh (u : FVec Ideal S8x1536 .f32) (r : Fin 8) (h : Fin 4) (c : Fin 128) : EReal :=
  unit1 (piece u r (128 * h.val) (by omega)) c * Ideal.ofBits .f32 0x3DB504F3#32
def kh (u : FVec Ideal S8x1536 .f32) (r : Fin 8) (h : Fin 4) (c : Fin 128) : EReal :=
  unit1 (piece u r (512 + 128 * h.val) (by omega)) c
def vh (u : FVec Ideal S8x1536 .f32) (r : Fin 8) (h : Fin 4) (c : Fin 128) : EReal :=
  piece u r (1024 + 128 * h.val) (by omega) c

/-- A function of token, head and lane laid out as a block. -/
def lay (f : Fin 8 → Fin 4 → Fin 128 → EReal) : S8x512.Idx → EReal := fun y =>
  f (y 0) ⟨(y 1).val / 128, by have : (y 1).val < 512 := (y 1).isLt; omega⟩ ⟨(y 1).val % 128, by omega⟩

theorem lay_eq (f : Fin 8 → Fin 4 → Fin 128 → EReal) (y : S8x512.Idx) (r : Fin 8) (h : Fin 4) (c : Fin 128)
    (h0 : (y 0).val = r.val) (h1 : (y 1).val = 128 * h.val + c.val) : lay f y = f r h c := by
  unfold lay
  have e0 : y 0 = r := Fin.ext h0
  rw [e0]
  congr 1
  · congr 1; omega
  · apply Fin.ext; show (y 1).val % 128 = c.val; omega

theorem canonQ (u : FVec Ideal S8x1536 .f32) :
    View.canon (Val := Elt Ideal) (e := .f32) [(⟨Rect.unit (s := S8x512) ![0, 384] ![8, 128] inb_S8x512_S8x128_0_384, k0_pay15 u⟩ : View.Piece (Elt Ideal) S8x512 .f32),
      ⟨Rect.unit (s := S8x512) ![0, 256] ![8, 128] inb_S8x512_S8x128_0_256, k0_pay13 (k0_pay12 u)⟩,
      ⟨Rect.unit (s := S8x512) ![0, 128] ![8, 128] inb_S8x512_S8x128_0_128, k0_pay10 u⟩,
      ⟨Rect.unit (s := S8x512) ![0, 0] ![8, 128] inb_S8x512_S8x128_0_0, k0_pay6 u⟩] = lay (qh u) := by
  funext y
  canon_tiles x h
  · refine Eq.trans ?_ (lay_eq _ y (x 0) 3 (x 1) h0 h1).symm
    idx_vars x; unfold qh unit1 piece; pointwise [k0_pay15]
  · refine Eq.trans ?_ (lay_eq _ y (x 0) 2 (x 1) h0 h1).symm
    idx_vars x; unfold qh unit1 piece; pointwise [k0_pay13, k0_pay12]
  · refine Eq.trans ?_ (lay_eq _ y (x 0) 1 (x 1) h0 h1).symm
    idx_vars x; unfold qh unit1 piece; pointwise [k0_pay10]
  · refine Eq.trans ?_ (lay_eq _ y (x 0) 0 (x 1) h0 (by simpa using h1)).symm
    idx_vars x; unfold qh unit1 piece; pointwise [k0_pay6]

theorem canonK (u : FVec Ideal S8x1536 .f32) :
    View.canon (Val := Elt Ideal) (e := .f32) [(⟨Rect.unit (s := S8x512) ![0, 384] ![8, 128] inb_S8x512_S8x128_0_384, k0_pay17 (k0_pay16 u)⟩ : View.Piece (Elt Ideal) S8x512 .f32),
      ⟨Rect.unit (s := S8x512) ![0, 256] ![8, 128] inb_S8x512_S8x128_0_256, k0_pay14 u⟩,
      ⟨Rect.unit (s := S8x512) ![0, 128] ![8, 128] inb_S8x512_S8x128_0_128, k0_pay11 u⟩,
      ⟨Rect.unit (s := S8x512) ![0, 0] ![8, 128] inb_S8x512_S8x128_0_0, k0_pay9 (k0_pay7 u) (k0_pay8 u)⟩] = lay (kh u) := by
  funext y
  canon_tiles x h
  · refine Eq.trans ?_ (lay_eq _ y (x 0) 3 (x 1) h0 h1).symm
    idx_vars x; unfold kh unit1 piece; pointwise [k0_pay17, k0_pay16]
  · refine Eq.trans ?_ (lay_eq _ y (x 0) 2 (x 1) h0 h1).symm
    idx_vars x; unfold kh unit1 piece; pointwise [k0_pay14]
  · refine Eq.trans ?_ (lay_eq _ y (x 0) 1 (x 1) h0 h1).symm
    idx_vars x; unfold kh unit1 piece; pointwise [k0_pay11]
  · refine Eq.trans ?_ (lay_eq _ y (x 0) 0 (x 1) h0 (by simpa using h1)).symm
    idx_vars x; unfold kh unit1 piece; pointwise [k0_pay9, k0_pay7, k0_pay8]

theorem pay18_lay (u : FVec Ideal S8x1536 .f32) : k0_pay18 (F := Ideal) u = lay (vh u) := by
  funext y
  refine Eq.trans ?_ (lay_eq _ y (y 0) ⟨(y 1).val / 128, by have : (y 1).val < 512 := (y 1).isLt; omega⟩ ⟨(y 1).val % 128, by omega⟩ rfl (by show _ = 128 * ((y 1).val / 128) + (y 1).val % 128; omega)).symm
  idx_vars y; unfold vh piece; pointwise [k0_pay18]
  refine congrArg u ((congrArg (ix2 y0) (Fin.ext ?_)))
  show 1024 + y1.val = 1024 + 128 * (y1.val / 128) + y1.val % 128
  omega

/-- The convolved features of a block. -/
def uB (x0 : Vec Ideal S8x2048 .f32) (x2 : Vec Ideal S3x8x1536 .f32) (x3 : Vec Ideal S4x1536 .f32) : FVec Ideal S8x1536 .f32 :=
  k0_pay2 (View.ld x0 (Rect.unit ![0, 0] ![8, 1536] inb_S8x2048_S8x1536_0_0))
    (View.ld x3 (Rect.unit ![3, 0] ![1, 1536] inb_S4x1536_S1x1536_3_0))
    (View.ld x3 (Rect.unit ![2, 0] ![1, 1536] inb_S4x1536_S1x1536_2_0))
    (View.ld x2 (Rect.unit ![2, 0, 0] ![1, 8, 1536] inb_S3x8x1536_S1x8x1536_2_0_0))
    (View.ld x3 (Rect.unit ![1, 0] ![1, 1536] inb_S4x1536_S1x1536_1_0))
    (View.ld x2 (Rect.unit ![1, 0, 0] ![1, 8, 1536] inb_S3x8x1536_S1x8x1536_1_0_0))
    (View.ld x3 (Rect.unit ![0, 0] ![1, 1536] inb_S4x1536_S1x1536_0_0))
    (View.ld x2 (Rect.unit ![0, 0, 0] ![1, 8, 1536] inb_S3x8x1536_S1x8x1536_0_0_0))

theorem uB_fold (x0 : Vec Ideal S8x2048 .f32) (x2 : Vec Ideal S3x8x1536 .f32) (x3 : Vec Ideal S4x1536 .f32) :
  k0_pay2 (View.ld x0 (Rect.unit ![0, 0] ![8, 1536] inb_S8x2048_S8x1536_0_0))
    (View.ld x3 (Rect.unit ![3, 0] ![1, 1536] inb_S4x1536_S1x1536_3_0))
    (View.ld x3 (Rect.unit ![2, 0] ![1, 1536] inb_S4x1536_S1x1536_2_0))
    (View.ld x2 (Rect.unit ![2, 0, 0] ![1, 8, 1536] inb_S3x8x1536_S1x8x1536_2_0_0))
    (View.ld x3 (Rect.unit ![1, 0] ![1, 1536] inb_S4x1536_S1x1536_1_0))
    (View.ld x2 (Rect.unit ![1, 0, 0] ![1, 8, 1536] inb_S3x8x1536_S1x8x1536_1_0_0))
    (View.ld x3 (Rect.unit ![0, 0] ![1, 1536] inb_S4x1536_S1x1536_0_0))
    (View.ld x2 (Rect.unit ![0, 0, 0] ![1, 8, 1536] inb_S3x8x1536_S1x8x1536_0_0_0)) = uB x0 x2 x3 := rfl

/-- The decay exponents and the step sizes of a block, lane by lane. -/
def gB (x1 : Vec Ideal S8x128 .f32) (x4 : Vec Ideal S2x128 .f32) (r : Fin 8) (l : Fin 128) : EReal :=
  (0 - Ideal.exp (x4 (ix2 0 l))) * (max (x1 (ix2 r l) + x4 (ix2 1 l)) 0 + Ideal.log (1 + Ideal.exp (0 - FloatOps.absf (F := Ideal) (φ := .f32) (x1 (ix2 r l) + x4 (ix2 1 l)))))

theorem gB_fold (x1 : Vec Ideal S8x128 .f32) (x4 : Vec Ideal S2x128 .f32) :
    k0_pay5 (k0_pay3 x1) (View.ld x4 (Rect.unit ![0, 0] ![1, 128] inb_S2x128_S1x128_0_0))
      (View.ld x4 (Rect.unit ![1, 0] ![1, 128] inb_S2x128_S1x128_1_0)) = fun j : S8x128.Idx => gB x1 x4 (j 0) (j 1) := by
  funext j; idx_vars j; unfold gB; pointwise [k0_pay5, k0_pay3]

theorem bB_fold (x1 : Vec Ideal S8x128 .f32) :
    k0_pay4 x1 = fun j : S8x128.Idx => Ideal.logistic (x1 (ix2 (j 0) (j 1))) := by
  funext j; idx_vars j; pointwise [k0_pay4, k0_pay3]

/-- The new state of a block. -/
def F8 (u : FVec Ideal S8x1536 .f32) (x1 : Vec Ideal S8x128 .f32) (x4 : Vec Ideal S2x128 .f32) (x6 : Vec Ideal S8x4x128x128 .f32) (r : Fin 8) (h : Fin 4) (a c : Fin 128) : EReal :=
  stepState (kh u r h) (vh u r h) (gB x1 x4 r ⟨4 + h.val, by omega⟩) (Ideal.logistic (x1 (ix2 r ⟨h.val, by omega⟩))) (fun a c => x6 (ix4 r h a c)) a c

theorem state_tile {u : FVec Ideal S8x1536 .f32} {x1 : Vec Ideal S8x128 .f32} {x4 : Vec Ideal S2x128 .f32} {x6 : Vec Ideal S8x4x128x128 .f32} {y : S8x4x128x128.Idx}
    {kr vr : Vec Ideal S1x128 .f32} {gr br : Vec Ideal S1x1 .f32} {sr : Vec Ideal S1x1x128x128 .f32} {x : S1x1x128x128.Idx}
    (h2 : (y 2).val = (x 2).val) (h3 : (y 3).val = (x 3).val)
    (hk : ∀ c, kr (ix2 0 c) = kh u (y 0) (y 1) c) (hv : ∀ c, vr (ix2 0 c) = vh u (y 0) (y 1) c)
    (hg : gr (ix2 0 0) = gB x1 x4 (y 0) ⟨4 + (y 1).val, Nat.add_lt_of_lt_sub' (Nat.lt_of_lt_of_le (y 1).isLt (by decide))⟩)
    (hb : br (ix2 0 0) = Ideal.logistic (x1 (ix2 (y 0) ⟨(y 1).val, Nat.lt_of_lt_of_le (y 1).isLt (by decide)⟩)))
    (hs : ∀ a c, sr (ix4 0 0 a c) = x6 (ix4 (y 0) (y 1) a c)) :
    k0_pay26 (F := Ideal) (k0_pay20 kr) (k0_pay22 gr sr) (k0_pay23 kr vr gr sr) (k0_pay24 br) x = F8 u x1 x4 x6 (y 0) (y 1) (y 2) (y 3) := by
  rw [state_apply]
  unfold F8
  simp only [hk, hv, hg, hb, hs]
  rw [show y 2 = x 2 from Fin.ext h2, show y 3 = x 3 from Fin.ext h3]

theorem gB_congr (x1 : Vec Ideal S8x128 .f32) (x4 : Vec Ideal S2x128 .f32) {r r' : Fin 8} {l l' : Fin 128} (h0 : r.val = r'.val) (h1 : l.val = l'.val) :
    gB x1 x4 r l = gB x1 x4 r' l' := by rw [Fin.ext h0, Fin.ext h1]

theorem bB_congr (x1 : Vec Ideal S8x128 .f32) {r r' : Fin 8} {l l' : Fin 128} (h0 : r.val = r'.val) (h1 : l.val = l'.val) :
    Ideal.logistic (x1 (ix2 r l)) = Ideal.logistic (x1 (ix2 r' l')) := by rw [Fin.ext h0, Fin.ext h1]

theorem idx4_ext {i j : S8x4x128x128.Idx} (h0 : (i 0).val = (j 0).val) (h1 : (i 1).val = (j 1).val)
    (h2 : (i 2).val = (j 2).val) (h3 : (i 3).val = (j 3).val) : i = j := by
  funext a
  fin_cases a
  · exact Fin.ext h0
  · exact Fin.ext h1
  · exact Fin.ext h2
  · exact Fin.ext h3

set_option maxHeartbeats 4000000 in
theorem out8 (c : Dev nD) (t : Fin cfg0.N) (x0 : Vec Ideal S8x2048 .f32) (x1 : Vec Ideal S8x128 .f32) (x2 : Vec Ideal S3x8x1536 .f32)
   (x3 : Vec Ideal S4x1536 .f32) (x4 : Vec Ideal S2x128 .f32) (x5 : Vec Ideal S1x128 .f32) (x6 : Vec Ideal S8x4x128x128 .f32) (y : S8x4x128x128.Idx) :
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) x0 x1 x2 x3 x4 x5 x6 y
     = F8 (uB x0 x2 x3) x1 x4 x6 (y 0) (y 1) (y 2) (y 3) := by
  frame_out
  simp only [View.readCov_eq_canon', canonQ, canonK, uB_fold, pay18_lay, gB_fold, bB_fold]
  simp (disch := decide) only [View.canon_cons_unit_lit']
  have key := @state_tile (uB x0 x2 x3) x1 x4 x6 y
  simp only [k0_pay19, k0_pay20, k0_pay22, k0_pay23, k0_pay24, k0_pay25, k0_pay26] at key
  canon_tiles x h
  all_goals simp only [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  all_goals refine key h2 h3 (fun c => lay_eq _ _ (y 0) (y 1) c ?_ ?_) (fun c => lay_eq _ _ (y 0) (y 1) c ?_ ?_) (gB_congr _ _ ?_ ?_) (bB_congr _ ?_ ?_) (fun a c => congrArg x6 (idx4_ext ?_ ?_ ?_ ?_))
  all_goals clear key
  all_goals first | (simp only [Rect.idx_unit_val]; simp; omega) | (simp; done) | (simp; omega)
/-- The read-out of a block before its normalisation. -/
def F7 (u : FVec Ideal S8x1536 .f32) (x1 : Vec Ideal S8x128 .f32) (x4 : Vec Ideal S2x128 .f32) (x6 : Vec Ideal S8x4x128x128 .f32) (r : Fin 8) (h : Fin 4) (c : Fin 128) : EReal :=
  stepOut (kh u r h) (qh u r h) (vh u r h) (gB x1 x4 r ⟨4 + h.val, by omega⟩) (Ideal.logistic (x1 (ix2 r ⟨h.val, by omega⟩))) (fun a c => x6 (ix4 r h a c)) c

theorem out_tile {u : FVec Ideal S8x1536 .f32} {x1 : Vec Ideal S8x128 .f32} {x4 : Vec Ideal S2x128 .f32} {x6 : Vec Ideal S8x4x128x128 .f32} {y : S8x512.Idx} (r : Fin 8) (h : Fin 4)
    {kr qr vr : Vec Ideal S1x128 .f32} {gr br : Vec Ideal S1x1 .f32} {sr : Vec Ideal S1x1x128x128 .f32} {x : S1x128.Idx}
    (h0 : (y 0).val = r.val) (h1 : (y 1).val = 128 * h.val + (x 1).val)
    (hk : ∀ c, kr (ix2 0 c) = kh u r h c) (hq : ∀ c, qr (ix2 0 c) = qh u r h c) (hv : ∀ c, vr (ix2 0 c) = vh u r h c)
    (hg : gr (ix2 0 0) = gB x1 x4 r ⟨4 + h.val, by omega⟩)
    (hb : br (ix2 0 0) = Ideal.logistic (x1 (ix2 r ⟨h.val, by omega⟩)))
    (hs : ∀ a c, sr (ix4 0 0 a c) = x6 (ix4 r h a c)) :
    k0_pay27 (F := Ideal) (k0_pay20 kr) (k0_pay21 qr) (k0_pay22 gr sr) (k0_pay23 kr vr gr sr) (k0_pay24 br) x = lay (F7 u x1 x4 x6) y := by
  rw [out_apply, lay_eq _ y r h (x 1) h0 h1]
  unfold F7
  simp only [hk, hq, hv, hg, hb, hs]

theorem canon_lay {f : Fin 8 → Fin 4 → Fin 128 → EReal} {L : List (View.Piece (Elt Ideal) S8x512 .f32)} (h : View.canon L = lay f) : View.canon L = lay f := h

/-- The normalised and gated read-out of one head. -/
def gated (o z nw : Fin 128 → EReal) (c : Fin 128) : EReal :=
  o c * Ideal.rsqrt (Ideal.div (∑ l, o l * o l) (Ideal.ofBits .f32 1124073472#32) + Ideal.ofBits .f32 897988541#32) * nw c * (z c * Ideal.logistic (z c))

set_option maxHeartbeats 4000000 in
theorem out7 (c : Dev nD) (t : Fin cfg0.N) (x0 : Vec Ideal S8x2048 .f32) (x1 : Vec Ideal S8x128 .f32) (x2 : Vec Ideal S3x8x1536 .f32)
   (x3 : Vec Ideal S4x1536 .f32) (x4 : Vec Ideal S2x128 .f32) (x5 : Vec Ideal S1x128 .f32) (x6 : Vec Ideal S8x4x128x128 .f32) (y : S8x512.Idx) :
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) x0 x1 x2 x3 x4 x5 x6 y
     = lay (fun r h => gated (F7 (uB x0 x2 x3) x1 x4 x6 r h) (fun c => x0 (ix2 r ⟨1536 + 128 * h.val + c.val, by omega⟩)) (fun c => x5 (ix2 0 c))) y := by
  frame_out
  simp only [View.readCov_eq_canon', canonQ, canonK, uB_fold, pay18_lay, gB_fold, bB_fold]
  simp (disch := decide) only [View.canon_cons_unit_lit']
  rw [canon_lay (f := F7 (uB x0 x2 x3) x1 x4 x6)]
  · canon_tiles x h
    · refine Eq.trans ?_ (lay_eq _ y (x 0) 3 (x 1) h0 h1).symm
      have hl : ∀ (f : Fin 8 → Fin 4 → Fin 128 → EReal) (r : Fin 8) (c : Fin 128) (hc), lay f (ix2 r ⟨384 + c.val, hc⟩) = f r 3 c :=
        fun f r c hc => lay_eq f _ r 3 c rfl (by simp [ix2])
      idx_vars x; unfold gated; pointwise [k0_pay1, k0_pay184, k0_pay185, k0_pay186, k0_pay187]
      simp only [hl]
    · refine Eq.trans ?_ (lay_eq _ y (x 0) 2 (x 1) h0 h1).symm
      have hl : ∀ (f : Fin 8 → Fin 4 → Fin 128 → EReal) (r : Fin 8) (c : Fin 128) (hc), lay f (ix2 r ⟨256 + c.val, hc⟩) = f r 2 c :=
        fun f r c hc => lay_eq f _ r 2 c rfl (by simp [ix2])
      idx_vars x; unfold gated; pointwise [k0_pay183]
      simp only [hl]
    · refine Eq.trans ?_ (lay_eq _ y (x 0) 1 (x 1) h0 h1).symm
      have hl : ∀ (f : Fin 8 → Fin 4 → Fin 128 → EReal) (r : Fin 8) (c : Fin 128) (hc), lay f (ix2 r ⟨128 + c.val, hc⟩) = f r 1 c :=
        fun f r c hc => lay_eq f _ r 1 c rfl (by simp [ix2])
      idx_vars x; unfold gated; pointwise [k0_pay182, k0_pay179, k0_pay180, k0_pay181]
      simp only [hl]
    · refine Eq.trans ?_ (lay_eq _ y (x 0) 0 (x 1) h0 (by simpa using h1)).symm
      have hl : ∀ (f : Fin 8 → Fin 4 → Fin 128 → EReal) (r : Fin 8) (c : Fin 128) (hc), lay f (ix2 r ⟨c.val, hc⟩) = f r 0 c :=
        fun f r c hc => lay_eq f _ r 0 c rfl (by simp [ix2])
      idx_vars x; unfold gated; pointwise [k0_pay178]
      simp only [hl]
  · have key := @out_tile (uB x0 x2 x3) x1 x4 x6
    simp only [k0_pay19, k0_pay20, k0_pay21, k0_pay22, k0_pay23, k0_pay24, k0_pay25, k0_pay27] at key
    clear y
    funext y
    canon_tiles x h
    all_goals simp only [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
    all_goals refine key (y 0) ⟨(y 1).val / 128, by have : (y 1).val < 512 := (y 1).isLt; omega⟩ rfl ?_ (fun c => lay_eq _ _ _ _ c ?_ ?_) (fun c => lay_eq _ _ _ _ c ?_ ?_) (fun c => lay_eq _ _ _ _ c ?_ ?_) (gB_congr _ _ ?_ ?_) (bB_congr _ ?_ ?_) (fun a c => congrArg x6 (idx4_ext ?_ ?_ ?_ ?_))
    all_goals clear key
    all_goals first | (simp only [Rect.idx_unit_val]; simp; omega) | (simp; done) | (simp; omega)
end Cert.KernelIdeal.Dn
-- ==== Proof.DnBlocks.lean ====
module

public import proofs.«01_k».proof.Proof.DnTile
public import Idealize.ShloMosaic.Lib.Claim
public import Idealize.ShloMosaic.Lib.Routing.OpsOrder
@[expose] public section

set_option maxRecDepth 16384
noncomputable section
namespace Cert.KernelIdeal.Dn
open Cert.KernelIdeal Cert.KernelIdeal.Gen
open Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val, 0] ∧ win0_1.index t = ![t.val, 30] ∧ win0_2.index t = ![0, t.val, 0]
    ∧ win0_3.index t = ![0, 0] ∧ win0_4.index t = ![0, 0] ∧ win0_5.index t = ![0, 0] ∧ win0_6.index t = ![t.val, 0, 0, 0]
    ∧ win0_7.index t = ![t.val, 0] ∧ win0_8.index t = ![t.val, 0, 0, 0] :=
  (by decide +kernel : ∀ t : Fin grid0.N, _)

theorem rowLt (t : Fin cfg0.N) (r : Fin 8) : 8 * t.val + r.val < 128 := by
  have : t.val < 16 := t.isLt
  omega

/-- The token of row `r` of the block of point `t`. -/
def tok (t : Fin cfg0.N) (r : Fin 8) : Fin 128 := ⟨8 * t.val + r.val, rowLt t r⟩

/-- Lane `4 + h` of a table of 128 that took four values at lane 4. -/
theorem pad_lane (x : FVec Ideal S128 .f32) (u : FVec Ideal S4 .f32) (h : Fin 4) :
    Host.scatter scatter_S128_S1_S4_0_n_0_0 (fun _ b => b) x (broadcastInDim S1 ![] bcast_S_S1 (constantI S_ 32 4#32)) u (ix1 ⟨4 + h.val, by omega⟩) = u (ix1 h) := by
  rw [← Routing.scatterIn_finRange, Routing.scatterIn_at]
  have key : ∀ (n : Fin S4.numel) (h : Fin 4), (scatter_S128_S1_S4_0_n_0_0.resultIdx? (S4.rowMajor.symm n) (broadcastInDim S1 ![] bcast_S_S1 (constantI S_ 32 4#32)) = some (ix1 ⟨4 + h.val, by omega⟩)) ↔ n.val = h.val := by
    decide +kernel
  have key2 : ∀ (h : Fin 4), S4.rowMajor.symm ⟨h.val, h.isLt⟩ = ix1 h := by decide +kernel
  simp only [key]
  rw [← key2]
  fin_cases h <;> rfl

/-- The packed projection: the two wide slabs of 2048 columns with the gate columns brought between them. -/
def packed (x : FVec Ideal S128x1x5896 .f32) : FVec Ideal S128x6144 .f32 :=
  have v0 : FVec Ideal S128x5896 .f32 := shapeCast S128x5896 x shapeCasts_S128x1x5896_S128x5896
  concatenate S128x6144 1 [⟨S128x2048, extractStridedSlice S128x2048 ![0, 0] v0 slices_S128x5896_S128x2048_0_0⟩,
    ⟨S128x2048, concatenate S128x2048 1 [⟨S128x1792, extractStridedSlice S128x1792 ![0, 2056] v0 slices_S128x5896_S128x1792_0_2056⟩,
      ⟨S128x8, extractStridedSlice S128x8 ![0, 2048] v0 slices_S128x5896_S128x8_0_2048⟩,
      ⟨S128x248, broadcastInDim S128x248 ![] bcast_S_S128x248 (constant S_ .f32 0x00000000#32)⟩] concatenates_S128x1792_S128x8_S128x248_S128x2048_d1⟩,
    ⟨S128x2048, extractStridedSlice S128x2048 ![0, 3848] v0 slices_S128x5896_S128x2048_0_3848⟩] concatenates_S128x2048_S128x2048_S128x2048_S128x6144_d1

theorem packed_lo (x : FVec Ideal S128x1x5896 .f32) (k : Fin 128) (j : Fin 2048) :
    packed x (ix2 k ⟨j.val, by omega⟩) = x (ix3 k 0 ⟨j.val, by omega⟩) := by
  pointwise [packed]

theorem packed_gate (x : FVec Ideal S128x1x5896 .f32) (k : Fin 128) (l : Fin 8) :
    packed x (ix2 k ⟨3840 + l.val, by omega⟩) = x (ix3 k 0 ⟨2048 + l.val, by omega⟩) := by
  pointwise [packed]
  have hl := l.isLt
  rw [dif_neg (by omega), dif_pos (by omega), dif_neg (by omega), dif_pos (by omega)]
  congr 3
  omega

theorem V7 (c : Dev nD) : V m c main_v7 = packed (m ((c : Thread nD τ).loc main_arg0)) := by
  unfold packed
  rfl

theorem blk0 (c : Dev nD) (t : Fin cfg0.N) (r : Fin 8) (j : Fin 2048) :
    (iblk m c 0 t : Vec Ideal S8x2048 .f32) (ix2 r j) = (m ((c : Thread nD τ).loc main_arg0) : Vec Ideal S128x1x5896 .f32) (ix3 (tok t r) 0 ⟨j.val, by omega⟩) := by
  have e : (win0_0.blk t).view.emb (ix2 r j) = (ix2 (tok t r) ⟨j.val, by omega⟩ : S128x6144.Idx) := by
    blk_ext [idx t, tok]
  refine (congrArg (V m c main_v7) e).trans ?_
  rw [V7]
  exact packed_lo ..

theorem blk1 (c : Dev nD) (t : Fin cfg0.N) (r : Fin 8) (l : Fin 8) :
    (iblk m c 1 t : Vec Ideal S8x128 .f32) (ix2 r ⟨l.val, by omega⟩) = (m ((c : Thread nD τ).loc main_arg0) : Vec Ideal S128x1x5896 .f32) (ix3 (tok t r) 0 ⟨2048 + l.val, by omega⟩) := by
  have e : (win0_1.blk t).view.emb (ix2 r ⟨l.val, by omega⟩) = (ix2 (tok t r) ⟨3840 + l.val, by omega⟩ : S128x6144.Idx) := by
    blk_ext [idx t, tok]
  refine (congrArg (V m c main_v7) e).trans ?_
  rw [V7]
  exact packed_gate ..

theorem blk2 (c : Dev nD) (t : Fin cfg0.N) (k : Fin 3) (r : Fin 8) (j : Fin 1536) :
    (iblk m c 2 t : Vec Ideal S3x8x1536 .f32) (ix3 k r j) = (m ((c : Thread nD τ).loc main_arg1) : Vec Ideal S1x128x3x1536 .f32) (ix4 0 (tok t r) k j) := by
  have e : (win0_2.blk t).view.emb (ix3 k r j) = (ix3 k (tok t r) j : S3x128x1536.Idx) := by
    blk_ext [idx t, tok]
  refine (congrArg (V m c main_v23) e).trans ?_
  entry_read
  pointwise []

theorem blk3 (c : Dev nD) (t : Fin cfg0.N) (k : Fin 4) (j : Fin 1536) :
    (iblk m c 3 t : Vec Ideal S4x1536 .f32) (ix2 k j) = (m ((c : Thread nD τ).loc main_arg3) : Vec Ideal S1x4x1536 .f32) (ix3 0 k j) := by
  have e : (win0_3.blk t).view.emb (ix2 k j) = (ix2 k j : S4x1536.Idx) := by
    blk_ext [idx t]
  refine (congrArg (V m c main_v8) e).trans ?_
  entry_read
  pointwise []

theorem blk6 (c : Dev nD) (t : Fin cfg0.N) (r : Fin 8) (h : Fin 4) (a b : Fin 128) :
    (iblk m c 6 t : Vec Ideal S8x4x128x128 .f32) (ix4 r h a b) = (m ((c : Thread nD τ).loc main_arg2) : Vec Ideal S1x128x4x128x128 .f32) (ix5 0 (tok t r) h a b) := by
  have e : (win0_6.blk t).view.emb (ix4 r h a b) = (ix4 (tok t r) h a b : S128x4x128x128.Idx) := by
    blk_ext [idx t, tok]
  refine (congrArg (V m c main_v24) e).trans ?_
  entry_read
  pointwise []

theorem blk5 (c : Dev nD) (t : Fin cfg0.N) (j : Fin 128) :
    (iblk m c 5 t : Vec Ideal S1x128 .f32) (ix2 0 j) = (m ((c : Thread nD τ).loc main_arg6) : Vec Ideal S1x128 .f32) (ix2 0 j) := by
  have e : (win0_5.blk t).view.emb (ix2 0 j) = (ix2 0 j : S1x128.Idx) := by
    blk_ext [idx t]
  refine (congrArg (V m c main_v21) e).trans ?_
  entry_read
  pointwise []

/-- Row `a`, lane `4 + h` of the gate parameters. -/
def table (A D : FVec Ideal S1x4 .f32) : FVec Ideal S2x128 .f32 :=
  concatenate S2x128 0
        [⟨S1x128,
            broadcastInDim S1x128 ![1] bcast_S128_S1x128_1
              (Host.scatter scatter_S128_S1_S4_0_n_0_0 (fun x b => b)
                (broadcastInDim S128 ![] bcast_S_S128 (constant S_ FTy.f32 0#32))
                (broadcastInDim S1 ![] bcast_S_S1 (constantI S_ 32 4#32)) (shapeCast S4 A shapeCasts_S1x4_S4))⟩,
          ⟨S1x128,
            broadcastInDim S1x128 ![1] bcast_S128_S1x128_1
              (Host.scatter scatter_S128_S1_S4_0_n_0_0 (fun x b => b)
                (broadcastInDim S128 ![] bcast_S_S128 (constant S_ FTy.f32 0#32))
                (broadcastInDim S1 ![] bcast_S_S1 (constantI S_ 32 4#32)) (shapeCast S4 D shapeCasts_S1x4_S4))⟩]
        concatenates_S1x128_S1x128_S2x128_d0
theorem table_a (A D : FVec Ideal S1x4 .f32) (h : Fin 4) : table A D (ix2 0 ⟨4 + h.val, by omega⟩) = A (ix2 0 h) := by
  have e := pad_lane (broadcastInDim S128 ![] bcast_S_S128 (constant S_ FTy.f32 0#32)) (shapeCast S4 A shapeCasts_S1x4_S4) h
  unfold table
  generalize Host.scatter scatter_S128_S1_S4_0_n_0_0 (fun x b => b)
                (broadcastInDim S128 ![] bcast_S_S128 (constant S_ FTy.f32 0#32))
                (broadcastInDim S1 ![] bcast_S_S1 (constantI S_ 32 4#32)) (shapeCast S4 A shapeCasts_S1x4_S4) = p at e ⊢
  pointwise []
  refine Eq.trans ?_ (e.trans ?_)
  · rfl
  · pointwise []
theorem table_d (A D : FVec Ideal S1x4 .f32) (h : Fin 4) : table A D (ix2 1 ⟨4 + h.val, by omega⟩) = D (ix2 0 h) := by
  have e := pad_lane (broadcastInDim S128 ![] bcast_S_S128 (constant S_ FTy.f32 0#32)) (shapeCast S4 D shapeCasts_S1x4_S4) h
  unfold table
  generalize Host.scatter scatter_S128_S1_S4_0_n_0_0 (fun x b => b)
                (broadcastInDim S128 ![] bcast_S_S128 (constant S_ FTy.f32 0#32))
                (broadcastInDim S1 ![] bcast_S_S1 (constantI S_ 32 4#32)) (shapeCast S4 D shapeCasts_S1x4_S4) = p at e ⊢
  pointwise []
  refine Eq.trans ?_ (e.trans ?_)
  · rfl
  · pointwise []

theorem V19 (c : Dev nD) : V m c main_v19 = table (m ((c : Thread nD τ).loc main_arg4)) (m ((c : Thread nD τ).loc main_arg5)) := by
  unfold table
  rfl
theorem blk4a (c : Dev nD) (t : Fin cfg0.N) (h : Fin 4) :
    (iblk m c 4 t : Vec Ideal S2x128 .f32) (ix2 0 ⟨4 + h.val, by omega⟩) = (m ((c : Thread nD τ).loc main_arg4) : Vec Ideal S1x4 .f32) (ix2 0 h) := by
  have e : (win0_4.blk t).view.emb (ix2 0 ⟨4 + h.val, by omega⟩) = (ix2 0 ⟨4 + h.val, by omega⟩ : S2x128.Idx) := by
    blk_ext [idx t]
  refine (congrArg (V m c main_v19) e).trans ?_
  rw [V19]
  exact table_a ..
theorem blk4d (c : Dev nD) (t : Fin cfg0.N) (h : Fin 4) :
    (iblk m c 4 t : Vec Ideal S2x128 .f32) (ix2 1 ⟨4 + h.val, by omega⟩) = (m ((c : Thread nD τ).loc main_arg5) : Vec Ideal S1x4 .f32) (ix2 0 h) := by
  have e : (win0_4.blk t).view.emb (ix2 1 ⟨4 + h.val, by omega⟩) = (ix2 1 ⟨4 + h.val, by omega⟩ : S2x128.Idx) := by
    blk_ext [idx t]
  refine (congrArg (V m c main_v19) e).trans ?_
  rw [V19]
  exact table_d ..
end Cert.KernelIdeal.Dn
-- ==== Proof.DnRef.lean ====
module

public import proofs.«01_k».proof.Proof.DnTile
public import proofs.«01_k».proof.Proof.Gen.ReferenceIdeal.Read
public import Idealize.ShloMosaic.Lib.Claim
public import Idealize.ShloMosaic.Lib.Pointwise
@[expose] public section

set_option maxRecDepth 16384
noncomputable section
namespace Cert.ReferenceIdeal.Dn
open Cert.ReferenceIdeal Cert.ReferenceIdeal.Gen Cert.ReferenceIdeal.Read
open Idealize.ShloMosaic Idealize.ShloMosaic.TcCoe Idealize.SL.Sem
open Cert.KernelIdeal.Dn (unit1 stepState stepOut gated)

variable (P : FVec Ideal S128x1x5896 .f32) (C : FVec Ideal S1x128x3x1536 .f32) (W : FVec Ideal S1x4x1536 .f32)
  (A D : FVec Ideal S1x4 .f32) (S : FVec Ideal S1x128x4x128x128 .f32) (N : FVec Ideal S1x128 .f32)

/-- Column `j` of the short convolution of token `b`. -/
def conv (b : Fin 128) (j : Fin 1536) : EReal :=
  W (ix3 0 3 j) * P (ix3 b 0 ⟨j.val, by omega⟩) + W (ix3 0 2 j) * C (ix4 0 b 2 j) + W (ix3 0 1 j) * C (ix4 0 b 1 j) + W (ix3 0 0 j) * C (ix4 0 b 0 j)

/-- What the convolution passes on. -/
def uT (b : Fin 128) (j : Fin 1536) : EReal := conv P C W b j * Ideal.logistic (conv P C W b j)

theorem conv_eq (b : Fin 128) (j : Fin 1536) : val_main_v30 (F := Ideal) P C W (ix3 b 0 j) = conv P C W b j := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, conv]
  have key : ∀ a b c d : EReal, a + b + c + d = d + c + b + a := by
    intro a b c d
    ac_rfl
  rw [mul_comm (W (ix3 0 3 j)), mul_comm (W (ix3 0 2 j)), mul_comm (W (ix3 0 1 j)), mul_comm (W (ix3 0 0 j))]
  exact key _ _ _ _

theorem u_eq (b : Fin 128) (j : Fin 1536) : val_main_v31 (F := Ideal) P C W (ix3 b 0 j) = uT P C W b j := by
  unfold uT
  rw [← conv_eq]
  pointwise [val_main_v31, val_main_call0_v0, val_main_call0_v1, val_main_call0_v2, val_main_call0_v3, val_main_call0_v4, val_main_call0_v5, val_main_call0_cst, val_main_call0_cst_0]
  rfl

/-- Head `h`'s slice of the convolved row of token `b` that starts at column `o`. -/
def sl (o : ℕ) (ho : o + 512 ≤ 1536) (b : Fin 128) (h : Fin 4) (c : Fin 128) : EReal := uT P C W b ⟨o + (128 * h.val + c.val), by omega⟩
def qT (b : Fin 128) (h : Fin 4) (c : Fin 128) : EReal := unit1 (sl P C W 0 (by omega) b h) c * Ideal.ofBits .f32 0x3DB504F3#32
def kT (b : Fin 128) (h : Fin 4) : Fin 128 → EReal := unit1 (sl P C W 512 (by omega) b h)
def gT (b : Fin 128) (h : Fin 4) : EReal :=
  (0 - Ideal.exp (A (ix2 0 h))) * (max (P (ix3 b 0 ⟨2052 + h.val, by omega⟩) + D (ix2 0 h)) 0 + Ideal.log (1 + Ideal.exp (0 - FloatOps.absf (F := Ideal) (φ := .f32) (P (ix3 b 0 ⟨2052 + h.val, by omega⟩) + D (ix2 0 h)))))
def bT (b : Fin 128) (h : Fin 4) : EReal := Ideal.logistic (P (ix3 b 0 ⟨2048 + h.val, by omega⟩))
def sT (b : Fin 128) (h : Fin 4) : Fin 128 → Fin 128 → EReal :=
  stepState (kT P C W b h) (sl P C W 1024 (by omega) b h) (gT P A D b h) (bT P b h) (fun a c => S (ix5 0 b h a c))
def oT (b : Fin 128) (h : Fin 4) : Fin 128 → EReal :=
  stepOut (kT P C W b h) (qT P C W b h) (sl P C W 1024 (by omega) b h) (gT P A D b h) (bT P b h) (fun a c => S (ix5 0 b h a c))
def yT (b : Fin 128) (h : Fin 4) : Fin 128 → EReal :=
  gated (oT P C W A D S b h) (fun c => P (ix3 b 0 ⟨1536 + (128 * h.val + c.val), by omega⟩)) (fun c => N (ix2 0 c))

theorem q_eq (b : Fin 128) (h : Fin 4) (c : Fin 128) : val_main_v43 (F := Ideal) P C W (ix4 b 0 h c) = qT P C W b h c := by
  pointwise [val_main_v43, val_main_v42, val_main_v41, val_main_v40, val_main_v39, val_main_v38, val_main_v37, val_main_v36, val_main_v35, val_main_v34, val_main_v33, val_main_v32, val_main_cst, val_main_cst_0, val_main_cst_1, val_main_cst_2, val_main_cst_3, u_eq]
  have e : ∀ x : Fin 128, (⟨h.val * 128 + x.val, by omega⟩ : Fin 1536) = ⟨0 + (128 * h.val + x.val), by omega⟩ := fun x => Fin.ext (by simp; omega)
  simp only [e]
  rfl
theorem k_eq (b : Fin 128) (h : Fin 4) (c : Fin 128) : val_main_v53 (F := Ideal) P C W (ix4 b 0 h c) = kT P C W b h c := by
  pointwise [val_main_v53, val_main_v52, val_main_v51, val_main_v50, val_main_v49, val_main_v48, val_main_v47, val_main_v46, val_main_v45, val_main_v44, val_main_cst, val_main_cst_0, val_main_cst_1, val_main_cst_2, val_main_cst_3, u_eq]
  have e : ∀ x : Fin 128, (⟨512 + (h.val * 128 + x.val), by omega⟩ : Fin 1536) = ⟨512 + (128 * h.val + x.val), by omega⟩ := fun x => Fin.ext (by simp; omega)
  simp only [e]
  rfl
theorem v_eq (b : Fin 128) (h : Fin 4) (c : Fin 128) : val_main_v55 (F := Ideal) P C W (ix4 b 0 h c) = sl P C W 1024 (by omega) b h c := by
  pointwise [val_main_v55, val_main_v54, u_eq]
  have e : ∀ x : Fin 128, (⟨1024 + (h.val * 128 + x.val), by omega⟩ : Fin 1536) = ⟨1024 + (128 * h.val + x.val), by omega⟩ := fun x => Fin.ext (by simp; omega)
  simp only [e]
  rfl
theorem g_eq (b : Fin 128) (h : Fin 4) : val_main_v74 (F := Ideal) P A D (ix3 b 0 h) = gT P A D b h := by
  pointwise [val_main_v74, val_main_v73, val_main_v72, val_main_v71, val_main_v70, val_main_v69, val_main_v68, val_main_v67, val_main_v66, val_main_v65, val_main_v64, val_main_v63, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, gT]
  rw [if_neg (by simp)]
  simp only [sub_eq_add_neg, zero_add]
  rfl
theorem b_eq (b : Fin 128) (h : Fin 4) : val_main_v62 (F := Ideal) P (ix3 b 0 h) = bT P b h := by
  pointwise [val_main_v62, val_main_v61, val_main_v60, val_main_v59, val_main_v58, val_main_v57, val_main_v56, val_main_cst_4, val_main_cst_5, bT]
  rfl
theorem s_eq (b : Fin 128) (h : Fin 4) (a c : Fin 128) : val_main_v95 (F := Ideal) P C S W A D (ix4 b h a c) = sT P C W A D S b h a c := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, q_eq, k_eq, v_eq, g_eq, b_eq]
  rfl
theorem o_eq (b : Fin 128) (h : Fin 4) (c : Fin 128) : val_main_v96 (F := Ideal) P C S W A D (ix3 b h c) = oT P C W A D S b h c := by
  pointwise [val_main_v96, val_main_v76, s_eq, q_eq]
  rfl
theorem y_eq (b : Fin 128) (h : Fin 4) (c : Fin 128) : val_main_v117 (F := Ideal) P C S W A D N (ix2 b ⟨128 * h.val + c.val, by omega⟩) = yT P C W A D S N b h c := by
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_call2_v0, val_main_call2_v1, val_main_call2_v2, val_main_call2_v3, val_main_call2_v4, val_main_call2_v5, val_main_call2_cst, val_main_call2_cst_0, val_main_cst_6, val_main_cst_7, val_main_cst_8, o_eq]
  have e : (⟨1536 + (h.val * 128 + c.val), by omega⟩ : Fin 5896) = ⟨1536 + (128 * h.val + c.val), by omega⟩ := Fin.ext (by simp; omega)
  simp only [e]
  rfl
end Cert.ReferenceIdeal.Dn
-- ==== Proof.DnValue.lean ====
module

public import proofs.«01_k».proof.Proof.DnTile
public import proofs.«01_k».proof.Proof.DnBlocks
public import proofs.«01_k».proof.Proof.DnRef
public import proofs.«01_k».proof.Proof.Gen.KernelIdeal.Value
public import Idealize.ShloMosaic.Lib.Claim
@[expose] public section

set_option maxRecDepth 16384
noncomputable section
namespace Cert.KernelIdeal.Dn
open Cert.KernelIdeal Cert.KernelIdeal.Gen
open Idealize.ShloMosaic Idealize.ShloMosaic.TcCoe Idealize.SL.Sem
open Idealize.ShloMosaic.Pipeline (Dat)
open Cert.ReferenceIdeal.Dn (conv uT sl qT kT gT bT sT oT yT)
open Cert.ReferenceIdeal.Read (val_main_v95 val_main_v117)

/-- The features of a block whose tiles are read from the arguments. -/
theorem uB_at (x0 : Vec Ideal S8x2048 .f32) (x2 : Vec Ideal S3x8x1536 .f32) (x3 : Vec Ideal S4x1536 .f32)
    (P : FVec Ideal S128x1x5896 .f32) (C : FVec Ideal S1x128x3x1536 .f32) (W : FVec Ideal S1x4x1536 .f32) (r : Fin 8) (b : Fin 128)
    (h0 : ∀ j : Fin 2048, x0 (ix2 r j) = P (ix3 b 0 ⟨j.val, by omega⟩))
    (h2 : ∀ (k : Fin 3) (j : Fin 1536), x2 (ix3 k r j) = C (ix4 0 b k j))
    (h3 : ∀ (k : Fin 4) (j : Fin 1536), x3 (ix2 k j) = W (ix3 0 k j)) (j : Fin 1536) :
    uB x0 x2 x3 (ix2 r j) = uT P C W b j := by
  unfold uT conv
  have e0 := h0 ⟨j.val, by omega⟩
  rw [← e0, ← h2, ← h2, ← h2, ← h3, ← h3, ← h3, ← h3]
  pointwise [uB, k0_pay2]

theorem piece_at (u : FVec Ideal S8x1536 .f32) (P : FVec Ideal S128x1x5896 .f32) (C : FVec Ideal S1x128x3x1536 .f32) (W : FVec Ideal S1x4x1536 .f32) (r : Fin 8) (b : Fin 128)
    (hu : ∀ j, u (ix2 r j) = uT P C W b j) (o : ℕ) (ho : o + 512 ≤ 1536) (h : Fin 4) (o' : ℕ) (ho' : o' ≤ 1408) (e : o' = o + 128 * h.val) :
    piece u r o' ho' = sl P C W o ho b h := by
  subst e
  funext c
  unfold piece sl
  rw [hu]
  congr 1
  exact Fin.ext (by simp; omega)

/-- The blocks of one token hold the arguments' entries of that token. -/
structure Reads (x0 : Vec Ideal S8x2048 .f32) (x1 : Vec Ideal S8x128 .f32) (x2 : Vec Ideal S3x8x1536 .f32) (x3 : Vec Ideal S4x1536 .f32)
    (x4 : Vec Ideal S2x128 .f32) (x5 : Vec Ideal S1x128 .f32) (x6 : Vec Ideal S8x4x128x128 .f32)
    (P : FVec Ideal S128x1x5896 .f32) (C : FVec Ideal S1x128x3x1536 .f32) (W : FVec Ideal S1x4x1536 .f32)
    (A D : FVec Ideal S1x4 .f32) (S : FVec Ideal S1x128x4x128x128 .f32) (N : FVec Ideal S1x128 .f32) (r : Fin 8) (b : Fin 128) : Prop where
  h0 : ∀ j : Fin 2048, x0 (ix2 r j) = P (ix3 b 0 ⟨j.val, by omega⟩)
  h1 : ∀ l : Fin 8, x1 (ix2 r ⟨l.val, by omega⟩) = P (ix3 b 0 ⟨2048 + l.val, by omega⟩)
  h2 : ∀ (k : Fin 3) (j : Fin 1536), x2 (ix3 k r j) = C (ix4 0 b k j)
  h3 : ∀ (k : Fin 4) (j : Fin 1536), x3 (ix2 k j) = W (ix3 0 k j)
  h4a : ∀ h : Fin 4, x4 (ix2 0 ⟨4 + h.val, by omega⟩) = A (ix2 0 h)
  h4d : ∀ h : Fin 4, x4 (ix2 1 ⟨4 + h.val, by omega⟩) = D (ix2 0 h)
  h5 : ∀ c : Fin 128, x5 (ix2 0 c) = N (ix2 0 c)
  h6 : ∀ (h : Fin 4) (a c : Fin 128), x6 (ix4 r h a c) = S (ix5 0 b h a c)

section
variable {x0 : Vec Ideal S8x2048 .f32} {x1 : Vec Ideal S8x128 .f32} {x2 : Vec Ideal S3x8x1536 .f32} {x3 : Vec Ideal S4x1536 .f32}
    {x4 : Vec Ideal S2x128 .f32} {x5 : Vec Ideal S1x128 .f32} {x6 : Vec Ideal S8x4x128x128 .f32}
    {P : FVec Ideal S128x1x5896 .f32} {C : FVec Ideal S1x128x3x1536 .f32} {W : FVec Ideal S1x4x1536 .f32}
    {A D : FVec Ideal S1x4 .f32} {S : FVec Ideal S1x128x4x128x128 .f32} {N : FVec Ideal S1x128 .f32} {r : Fin 8} {b : Fin 128}
    (H : Reads x0 x1 x2 x3 x4 x5 x6 P C W A D S N r b)
include H

theorem kh_at (h : Fin 4) : kh (uB x0 x2 x3) r h = kT P C W b h := by
  have e := piece_at (uB x0 x2 x3) P C W r b (uB_at x0 x2 x3 P C W r b H.h0 H.h2 H.h3) 512 (by omega) h (512 + 128 * h.val) (by omega) rfl
  funext c
  unfold kh kT
  rw [e]
theorem qh_at (h : Fin 4) : qh (uB x0 x2 x3) r h = qT P C W b h := by
  have e := piece_at (uB x0 x2 x3) P C W r b (uB_at x0 x2 x3 P C W r b H.h0 H.h2 H.h3) 0 (by omega) h (128 * h.val) (by omega) (by omega)
  funext c
  unfold qh qT
  rw [e]
theorem vh_at (h : Fin 4) : vh (uB x0 x2 x3) r h = sl P C W 1024 (by omega) b h := by
  have e := piece_at (uB x0 x2 x3) P C W r b (uB_at x0 x2 x3 P C W r b H.h0 H.h2 H.h3) 1024 (by omega) h (1024 + 128 * h.val) (by omega) rfl
  funext c
  unfold vh
  rw [e]
theorem gB_at (h : Fin 4) : gB x1 x4 r ⟨4 + h.val, by omega⟩ = gT P A D b h := by
  unfold gB gT
  have e1 : x1 (ix2 r ⟨4 + h.val, by omega⟩) = P (ix3 b 0 ⟨2052 + h.val, by omega⟩) := by
    refine (H.h1 ⟨4 + h.val, by omega⟩).trans ?_
    congr 2
    exact Fin.ext (by simp; omega)
  rw [e1, H.h4a h, H.h4d h]
theorem bB_at (h : Fin 4) : Ideal.logistic (x1 (ix2 r ⟨h.val, by omega⟩)) = bT P b h := by
  unfold bT
  exact congrArg Ideal.logistic (H.h1 ⟨h.val, by omega⟩)
theorem F8_at (h : Fin 4) : F8 (uB x0 x2 x3) x1 x4 x6 r h = sT P C W A D S b h := by
  funext a c
  unfold F8 sT
  rw [kh_at H, vh_at H, gB_at H, bB_at H]
  simp only [H.h6]
theorem F7_at (h : Fin 4) : F7 (uB x0 x2 x3) x1 x4 x6 r h = oT P C W A D S b h := by
  funext c
  unfold F7 oT
  rw [kh_at H, qh_at H, vh_at H, gB_at H, bB_at H]
  simp only [H.h6]
theorem y_at (h : Fin 4) (c : Fin 128) :
    gated (F7 (uB x0 x2 x3) x1 x4 x6 r h) (fun c => x0 (ix2 r ⟨1536 + 128 * h.val + c.val, by omega⟩)) (fun c => x5 (ix2 0 c)) c = yT P C W A D S N b h c := by
  unfold yT
  rw [F7_at H]
  have ez : (fun c : Fin 128 => x0 (ix2 r ⟨1536 + 128 * h.val + c.val, by omega⟩)) = fun c : Fin 128 => P (ix3 b 0 ⟨1536 + (128 * h.val + c.val), by omega⟩) := by
    funext c
    refine (H.h0 _).trans ?_
    congr 2
    exact Fin.ext (by simp; omega)
  have en : (fun c : Fin 128 => x5 (ix2 0 c)) = fun c => N (ix2 0 c) := funext H.h5
  rw [ez, en]
end

variable (m : (ℓ : Loc nD τ sig) → Buf (Elt Ideal) ℓ)

theorem reads (c : Dev nD) (t : Fin cfg0.N) (r : Fin 8) :
    Reads (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg3)) (m ((c : Thread nD τ).loc main_arg4))
      (m ((c : Thread nD τ).loc main_arg5)) (m ((c : Thread nD τ).loc main_arg2)) (m ((c : Thread nD τ).loc main_arg6)) r (tok t r) :=
  ⟨blk0 m c t r, blk1 m c t r, fun k j => blk2 m c t k r j, blk3 m c t, blk4a m c t, blk4d m c t, blk5 m c t, blk6 m c t r⟩

set_option maxHeartbeats 1000000 in
/-- Every cell of the new states. -/
theorem final8 (c : Dev nD) : (dats m 0 c).arrAt 8 (cfgs 0).N
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  idx_vars y
  have e : ((cfg0.win 8).blk t).view.emb (ix4 y0 y1 y2 y3) = (ix4 (tok t y0) y1 y2 y3 : S128x4x128x128.Idx) := by
    blk_ext [idx t, tok]
  refine Eq.trans ?_ ((congrArg (val_main_v95 (F := Ideal) _ _ _ _ _ _) e).trans (Cert.ReferenceIdeal.Dn.s_eq _ _ _ _ _ _ _ _ _ _)).symm
  blk_simp
  rw [after0_8]
  unfold outsAt0
  dsimp only
  refine (out8 c t (iblk m c 0 t) (iblk m c 1 t) (iblk m c 2 t) (iblk m c 3 t) (iblk m c 4 t) (iblk m c 5 t) (iblk m c 6 t) _).trans ?_
  have h := congrFun (congrFun (F8_at (reads m c t y0) y1) y2) y3
  exact h

/-- Every cell of the gated output. -/
theorem final7 (c : Dev nD) : (dats m 0 c).arrAt 7 (cfgs 0).N
    = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  idx_vars y
  obtain ⟨h, l, hj⟩ : ∃ (h : Fin 4) (l : Fin 128), y1 = ⟨128 * h.val + l.val, by omega⟩ :=
    ⟨⟨y1.val / 128, by omega⟩, ⟨y1.val % 128, by omega⟩, Fin.ext (by simp; omega)⟩
  subst hj
  have e : ((cfg0.win 7).blk t).view.emb (ix2 y0 ⟨128 * h.val + l.val, by omega⟩) = (ix2 (tok t y0) ⟨128 * h.val + l.val, by omega⟩ : S128x512.Idx) := by
    blk_ext [idx t, tok]
  refine Eq.trans ?_ ((congrArg (val_main_v117 (F := Ideal) _ _ _ _ _ _ _) e).trans (Cert.ReferenceIdeal.Dn.y_eq _ _ _ _ _ _ _ _ _ _)).symm
  blk_simp
  rw [after0_7]
  unfold outsAt0
  dsimp only
  refine (out7 c t (iblk m c 0 t) (iblk m c 1 t) (iblk m c 2 t) (iblk m c 3 t) (iblk m c 4 t) (iblk m c 5 t) (iblk m c 6 t) _).trans ?_
  refine (lay_eq _ _ y0 h l rfl rfl).trans ?_
  exact y_at (reads m c t y0) h l
end Cert.KernelIdeal.Dn
-- ==== Proof.NormPromptRun.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.Pipeline.TableIdle
public import Idealize.ShloMosaic.Lib.VecWindow
@[expose] public section

set_option maxRecDepth 16384
noncomputable section
namespace Cert.Kernel2Ideal.Np
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S8x1024 .bf16) (harg5 : arg5.IsWhole) (arg6 : Memref sig .tc .vmem S1024x2048 .f32) (harg6 : arg6.IsWhole) (arg7 : Memref sig .tc .vmem S8x1024 .f32) (harg7 : arg7.IsWhole) (arg8 : Memref sig .tc .vmem S1024x1024 .bf16) (harg8 : arg8.IsWhole)
  (x : Vec F S1024x1024 .f32) (g : Vec F S1x1024 .f32) (w : Vec F S1024x2048 .bf16) (wb : Vec F S8x1024 .bf16)

/-- The body where the second grid coordinate is zero: it fills the scratch with the normalised rows. -/
theorem body_first (hc0 : k0_cond1 i = 1#1) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wb
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wb
          ∗ owns (c : Thread nD τ) arg6 fullShare (k0_pay3 (k0_pay1 x g) w) ∗ owns (c : Thread nD τ) arg7 fullShare (k0_pay2 wb (k0_pay1 x g)) ∗ owns (c : Thread nD τ) arg8 fullShare (k0_pay1 x g)) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold body_first.sl.v30 body_first.sl.HS_1
    exact (View.read_writes_full _ _ _ _ _).trans (congrArg₂ k0_pay3 ((View.readCov_full _ _ _ _ _).trans
      (congrArg₂ k0_pay1 ((View.readAt_full _ _ _).trans hf0) ((View.readAt_full _ _ _).trans hf1))) ((View.readAt_full _ _ _).trans hf2))
  isplitl [H5]
  · iexists _; isplitr; swap; · iexact H5
    ipureintro
    unfold body_first.sl.v30 body_first.sl.HS_1
    exact (View.read_writes_full _ _ _ _ _).trans (congrArg₂ k0_pay2 ((View.readAt_full _ _ _).trans hf3) ((View.readCov_full _ _ _ _ _).trans
      (congrArg₂ k0_pay1 ((View.readAt_full _ _ _).trans hf0) ((View.readAt_full _ _ _).trans hf1))))
  iexists _; isplitr; swap; · iexact HS
  ipureintro
  unfold body_first.sl.HS_1
  exact (View.read_writes_full _ _ _ _ _).trans (congrArg₂ k0_pay1 ((View.readAt_full _ _ _).trans hf0) ((View.readAt_full _ _ _).trans hf1))

/-- The body elsewhere: the scratch already holds the normalised rows, and the beta window is not touched. -/
theorem body_next (hc0 : ¬ k0_cond1 i = 1#1) (xn : Vec F S1024x1024 .bf16) (E : Set ℕ) (K : PUnit → sProp 𝕄) :
    iprop(owns (c : Thread nD τ) arg4 fullShare w
        ∗ (∃ d, owns (c : Thread nD τ) arg6 fullShare d) ∗ owns (c : Thread nD τ) arg8 fullShare xn
        ∗ (iprop(owns (c : Thread nD τ) arg4 fullShare w
          ∗ owns (c : Thread nD τ) arg6 fullShare (k0_pay3 xn w) ∗ owns (c : Thread nD τ) arg8 fullShare xn) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f2, %hf2, H2⟩, ⟨%d4, %f4, -, H4⟩, ⟨%fs, %hfs, HS⟩, Hk⟩
  obtain rfl := harg4.eq_unread hf2; obtain rfl := harg8.eq_unread hfs
  sl_exec (disch := first | sl_exact hc0)
  sl_step
  iapply Hk
  isplitl [H2]
  · iexists _; isplitr; · ipureintro; exact harg4.read_unread _
    iexact H2
  isplitl [H4]
  · iexists _; isplitr; swap; · iexact H4
    ipureintro
    exact (View.read_writes_full _ _ _ _ _).trans (congrArg₂ k0_pay3 ((View.readAt_full _ _ _).trans hfs) ((View.readAt_full _ _ _).trans hf2))
  iexists _; isplitr; · ipureintro; exact harg8.read_unread _
  iexact HS

end Body

variable (m : (ℓ : Loc nD τ sig) → Buf (Elt F) ℓ) (ρ : Dev nD → PrngReg)

/-- The first grid point of the row block that point `t` works on. -/
def base (t : Fin cfg0.N) : Fin cfg0.N := ⟨3 * (t.val / 3), by have := t.isLt; omega⟩
/-- The normalised rows of the row block of point `t`. -/
def xn (c : Dev nD) (t : Fin cfg0.N) : Vec F S1024x1024 .bf16 := k0_pay1 (iblk m c 0 (base t)) (iblk m c 1 (base t))

theorem base_first (t : Fin cfg0.N) (h : t.val % 3 = 0) : base t = t := Fin.ext (by show 3 * (t.val / 3) = t.val; omega)
theorem base_pred (t : Fin cfg0.N) (h : t.val % 3 ≠ 0) : base ⟨t.val - 1, by omega⟩ = base t :=
  Fin.ext (by show 3 * ((t.val - 1) / 3) = 3 * (t.val / 3); omega)

abbrev scM : Memref sig .tc .vmem S1024x1024 .bf16 := Memref.whole cc0_scratch0

/-- The scratch between two points: inside a row block it holds that block's normalised rows. -/
def scr (c : Dev nD) (n : ℕ) : sProp 𝕄 :=
  if h : n % 3 = 0 ∨ ¬ n < cfg0.N then iprop(∃ d, owns (c : Thread nD τ) scM fullShare d)
  else owns (c : Thread nD τ) scM fullShare (xn m c ⟨n, by omega⟩)

theorem scr_in (c : Dev nD) (t : Fin cfg0.N) (h : t.val % 3 ≠ 0) : scr m c t.val = owns (c : Thread nD τ) scM fullShare (xn m c t) := by
  unfold scr; rw [dif_neg (by have := t.isLt; omega)]
theorem scr_at (c : Dev nD) (n : ℕ) (h : n % 3 = 0) : scr m c n = iprop(∃ d, owns (c : Thread nD τ) scM fullShare d) := by
  unfold scr; rw [dif_pos (Or.inl h)]
theorem scr_out (c : Dev nD) (t : Fin cfg0.N) : owns (c : Thread nD τ) scM fullShare (xn m c t) ⊢ scr m c (t.val + 1) := by
  unfold scr
  split
  · iintro H; iexists _; iexact H
  · next h =>
    have e : xn m c ⟨t.val + 1, by omega⟩ = xn m c t := by
      unfold xn; rw [← base_pred ⟨t.val + 1, by omega⟩ (fun h0 => h (.inl h0))]; rfl
    rw [e]

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (xn m c t) (iblk m c 2 t)
    | ⟨5, _⟩ => k0_pay2 (iblk m c 3 (base t)) (xn m c t)
  Φ t := iprop(scr m c t.val ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (xn m c t) (iblk m c 2 t) := by dsimp only [dats]
theorem after0_5 (c : Dev nD) (t : Fin cfg0.N) : (dats m 0 c).after 5 t = k0_pay2 (iblk m c 3 (base t)) (xn m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem cond_iff : ∀ t : Fin cfg0.N, k0_cond1 (grid0.coords t) = 1#1 ↔ t.val % 3 = 0 := by decide +kernel
theorem idle_iff (t : Fin cfg0.N) : cfg0.idle 5 (cfg0.grid.coords t) = true ↔ t.val % 3 ≠ 0 := by
  rw [show cfg0.idle 5 (cfg0.grid.coords t) = !(k0_cond1 (grid0.coords t) == 1#1) from rfl, Ne, ← cond_iff t]
  simp
/-- The beta window's buffer is fresh exactly at the first point of a row block. -/
theorem fresh5 (n : ℕ) (h : n ≤ cfg0.N) : cfg0.fresh 5 n = (n % 3 == 0) :=
  cfg0.fresh_tab 5 (fun n => n % 3 == 0) rfl (fun t => by
    rw [Bool.eq_iff_iff, Bool.or_eq_true, Bool.and_eq_true, idle_iff, flush0_5, beq_iff_eq, beq_iff_eq]; omega) n h

theorem before0_5 (c : Dev nD) (t : Fin cfg0.N) (h : t.val % 3 ≠ 0) (d) : (dats m 0 c).before 5 t d = (dats m 0 c).after 5 t := by
  have carry : ∀ t : Fin cfg0.N, t.val % 3 ≠ 0 → (dats m 0 c).after 5 t = (dats m 0 c).after 5 ⟨t.val - 1, by omega⟩ := fun t h => by
    rw [after0_5, after0_5]; unfold xn; rw [base_pred t h]
  rw [(dats m 0 c).before_out_traj 5 rfl (fun _ _ => rfl) (fun t _ hi _ => carry t ((idle_iff t).mp hi)) t.val t rfl d,
    fresh5 _ (Nat.le_of_lt t.isLt), if_neg (by rw [beq_iff_eq]; exact h)]
  exact (carry t h).symm

/-- A buffer at what the body leaves meets the obligation, at an idle point too when the body found the same. -/
theorem leaves_after (c : Dev nD) (t : Fin cfg0.N) (h : t.val % 3 ≠ 0) :
    owns (c : Thread nD τ) (st0_5 t) fullShare ((dats m 0 c).after 5 t) ⊢ (dats m 0 c).leavesExact 5 t := by
  unfold Dat.leavesExact
  rw [(idle_iff t).mpr h]
  cases hf : (cfg0.win 5).flush t
  · iintro H; iexists default; rw [before0_5 m c t h]; iexact H
  · exact .rfl

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem Phi_at (c : Dev nD) (t : Fin (cfg0.N + 1)) : (dats m 0 c).Φ t = iprop(scr m c t.val ∗ ∃ r, prngReg c r) := by dsimp only [dats]

set_option maxHeartbeats 1200000 in
/-- The body at every point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, Phi_at, Phi_at,
    after0_0, after0_1, after0_2, after0_3, after0_4]
  rw [show t.castSucc.val = t.val from rfl, show t.succ.val = t.val + 1 from rfl]
  by_cases h : t.val % 3 = 0
  · rw [scr_at m c t.val h]
    have hl : (dats m 0 c).leavesExact 5 t = owns (c : Thread nD τ) (st0_5 t) fullShare ((dats m 0 c).after 5 t) := by
      unfold Dat.leavesExact
      rw [Bool.eq_false_iff.mpr (fun hi => (idle_iff t).mp hi h)]
    have hx : xn m c t = k0_pay1 (iblk m c 0 t) (iblk m c 1 t) := by unfold xn; rw [base_first t h]
    rw [hl, after0_5, base_first t h]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [← hx]
    iintro ⟨H0, H1, H2, H3, H4, H5, HS⟩
    isplitl [HS Hg]
    · isplitl [HS]
      · iapply (scr_out m c t); iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [scr_in m c t h]
    simp only [before0_5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (body_next c (grid0.coords t) _ _ _ _ _ _ _ _ _ _ _ _ _ _ (iblk m c 2 t) (fun hc => h ((cond_iff t).mp hc)) (xn m c t) Set.univ _)
    isplitl [H2]; · iexact H2
    isplitl [H4]; · iexists _; iexact H4
    isplitl [HS]; · iexact HS
    iintro ⟨H2, H4, HS⟩
    isplitl [HS Hg]
    · isplitl [HS]
      · iapply (scr_out m c t); iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_after m c t h); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA0_eq (c : Dev nD) : (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

set_option backward.isDefEq.respectTransparency.types false in
/-- The launch: every array of the pipeline, every other buffer after the host tail, and the counters. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_at, scr_at m c _ rfl, PhiA0_eq])
    (hout := fun c => by rw [Phi_at, scr_at m c _ rfl, PhiA0_eq])

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Np
-- ==== Proof.NormPrompt.lean ====
module

public import proofs.«01_k».proof.Proof.NormPromptRun
public import proofs.«01_k».proof.Proof.Gen.Reference2Ideal.Read
public import Idealize.ShloMosaic.Lib.Claim
public import Idealize.ShloMosaic.Lib.Pointwise
public import Idealize.ShloMosaic.Lib.Pipeline.ValueKit
@[expose] public section

set_option maxRecDepth 16384
noncomputable section
namespace Cert.Kernel2Ideal.Np
open Cert.Kernel2Ideal Cert.Kernel2Ideal.Gen
open Idealize.ShloMosaic Idealize.ShloMosaic.TcCoe Idealize.SL.Sem
open Idealize.ShloMosaic.Pipeline (Dat)

/-- One entry of a row divided by its root mean square and scaled by the gain. -/
def nrm (x g : Fin 1024 → EReal) (k : Fin 1024) : EReal :=
  x k * Ideal.rsqrt (Ideal.div (∑ l, x l * x l) (Ideal.ofBits .f32 0x44800000#32) + Ideal.ofBits .f32 0x358637BD#32) * g k

theorem pay1_eq (x : Vec Ideal S1024x1024 .f32) (g : Vec Ideal S1x1024 .f32) (r k : Fin 1024) :
    k0_pay1 x g (ix2 r k) = nrm (fun l => x (ix2 r l)) (fun l => g (ix2 0 l)) k := by
  pointwise [k0_pay1, nrm]
theorem pay2_eq (wb : Vec Ideal S8x1024 .bf16) (a : Vec Ideal S1024x1024 .bf16) (e : Fin 8) (r : Fin 1024) :
    k0_pay2 wb a (ix2 e r) = ∑ k : Fin 1024, wb (ix2 e k) * a (ix2 r k) := by
  pointwise [k0_pay2]
theorem pay3_eq (a : Vec Ideal S1024x1024 .bf16) (w : Vec Ideal S1024x2048 .bf16) (r : Fin 1024) (j : Fin 2048) :
    k0_pay3 a w (ix2 r j) = ∑ k : Fin 1024, a (ix2 r k) * w (ix2 k j) := by
  pointwise [k0_pay3]

section Ref
open Cert.Reference2Ideal.Read
variable (X : FVec Ideal Cert.Reference2Ideal.S8x2048x1024 .f32) (G : FVec Ideal Cert.Reference2Ideal.S1x1024 .f32) (W : FVec Ideal Cert.Reference2Ideal.S1x1024x5896 .f32)

/-- The projection of the normalised row at position `s` of sequence `b` to column `j`. -/
def proj (b : Fin 8) (s : Fin 2048) (j : Fin 5896) : EReal :=
  ∑ k : Fin 1024, nrm (fun l => X (ix3 b s l)) (fun l => G (ix2 0 l)) k * W (ix3 0 k j)

theorem ref_norm (b : Fin 8) (s : Fin 2048) (k : Fin 1024) : val_main_v13 (F := Ideal) X G (ix3 b s k) = nrm (fun l => X (ix3 b s l)) (fun l => G (ix2 0 l)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]
theorem ref_proj (b : Fin 8) (s : Fin 2048) (j : Fin 5896) : val_main_v15 (F := Ideal) X G W (ix3 b s j) = proj X G W b s j := by
  pointwise [val_main_v15, val_main_v14, ref_norm, proj]
theorem ref_beta (b : Fin 8) (s : Fin 2048) (q : Fin 8) : val_main_v22 (F := Ideal) X G W (ix2 q ⟨2048 * b.val + s.val, by omega⟩) = proj X G W b s ⟨2048 + q.val, by omega⟩ := by
  pointwise [val_main_v22, val_main_v21, val_main_v20, ref_proj]
end Ref

/-- The weight in the column order the kernel is given. -/
def packed (x : FVec Ideal S1x1024x5896 .f32) : FVec Ideal S1024x6144 .f32 :=
  have v0 : FVec Ideal S1024x5896 .f32 := shapeCast S1024x5896 x shapeCasts_S1x1024x5896_S1024x5896
  concatenate S1024x6144 1 [⟨S1024x2048, extractStridedSlice S1024x2048 ![0, 0] v0 slices_S1024x5896_S1024x2048_0_0⟩,
    ⟨S1024x2048, concatenate S1024x2048 1 [⟨S1024x1792, extractStridedSlice S1024x1792 ![0, 2056] v0 slices_S1024x5896_S1024x1792_0_2056⟩,
      ⟨S1024x8, extractStridedSlice S1024x8 ![0, 2048] v0 slices_S1024x5896_S1024x8_0_2048⟩,
      ⟨S1024x248, broadcastInDim S1024x248 ![] bcast_S_S1024x248 (constant S_ .f32 0x00000000#32)⟩] concatenates_S1024x1792_S1024x8_S1024x248_S1024x2048_d1⟩,
    ⟨S1024x2048, extractStridedSlice S1024x2048 ![0, 3848] v0 slices_S1024x5896_S1024x2048_0_3848⟩] concatenates_S1024x2048_S1024x2048_S1024x2048_S1024x6144_d1

/-- Where a packed column that holds a projection column takes it from. -/
def col (j : ℕ) : ℕ := if j < 2048 then j else if j < 3840 then j + 8 else if j < 3848 then j - 1792 else j - 248

theorem packed_col (x : FVec Ideal S1x1024x5896 .f32) (k : Fin 1024) (j : Fin 6144) (h : j.val < 3848 ∨ 4096 ≤ j.val) (hc : col j.val < 5896) :
    packed x (ix2 k j) = x (ix3 0 k ⟨col j.val, hc⟩) := by
  pointwise [packed]
  unfold col
  split_ifs <;> first
    | exact congrArg (fun q => x (ix3 0 k q)) (Fin.ext (by dsimp only; (try split_ifs) <;> omega))
    | exact congrArg (fun q => x (ix3 0 k q)) (Fin.ext (by dsimp only))
    | (exfalso; omega)

/-- A row of the flattened array. -/
def row (b : Fin 8) (s : Fin 2048) : Fin 16384 := ⟨2048 * b.val + s.val, by omega⟩

theorem rows_read (x : FVec Ideal S8x2048x1024 .f32) (b : Fin 8) (s : Fin 2048) (j : Fin 1024) :
    shapeCast S16384x1024 x shapeCasts_S8x2048x1024_S16384x1024 (ix2 (row b s) j) = x (ix3 b s j) := by
  unfold row
  pointwise []
theorem gain_read (x : FVec Ideal S1x1024 .f32) (j : Fin 1024) :
    broadcastInDim S1x1024 ![1] bcast_S1024_S1x1024_1 (shapeCast S1024 x shapeCasts_S1x1024_S1024) (ix2 0 j) = x (ix2 0 j) := by
  pointwise []

/-- The beta columns of the weight, one row each. -/
def betaRows (x : FVec Ideal S1x1024x5896 .f32) : FVec Ideal S8x1024 .bf16 :=
  truncf .bf16 (transpose S8x1024 [1, 0] (extractStridedSlice S1024x8 ![0, 2048]
    (shapeCast S1024x5896 x shapeCasts_S1x1024x5896_S1024x5896) slices_S1024x5896_S1024x8_0_2048)
    transposes_S1024x8_S8x1024_1_0) bitsLt_bf16_f32
theorem beta_read (x : FVec Ideal S1x1024x5896 .f32) (q : Fin 8) (k : Fin 1024) : betaRows x (ix2 q k) = x (ix3 0 k ⟨2048 + q.val, by omega⟩) := by
  pointwise [betaRows]

variable (m : (ℓ : Loc nD τ sig) → Buf (Elt Ideal) ℓ)

theorem V8 (c : Dev nD) : V m c main_v8 = (truncf .bf16 (packed (m ((c : Thread nD τ).loc main_arg2))) bitsLt_bf16_f32 : FVec Ideal S1024x6144 .bf16) := by
  unfold packed
  rfl
theorem V12 (c : Dev nD) : V m c main_v12 = betaRows (m ((c : Thread nD τ).loc main_arg2)) := by
  unfold betaRows
  rfl
theorem V14 (c : Dev nD) : V m c main_v14 = (broadcastInDim S1x1024 ![1] bcast_S1024_S1x1024_1
    (shapeCast S1024 (m ((c : Thread nD τ).loc main_arg1) : FVec Ideal S1x1024 .f32) shapeCasts_S1x1024_S1024) : FVec Ideal S1x1024 .f32) := rfl
theorem V15 (c : Dev nD) : V m c main_v15 = (shapeCast S16384x1024 (m ((c : Thread nD τ).loc main_arg0) : FVec Ideal S8x2048x1024 .f32) shapeCasts_S8x2048x1024_S16384x1024 : FVec Ideal S16384x1024 .f32) := rfl

theorem idx : ∀ t : Fin cfg0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![0, t.val / 3] :=
  (by decide +kernel : ∀ t : Fin grid0.N, _)

theorem tLt (t : Fin cfg0.N) : t.val < 48 := t.isLt

/-- The sequence of the row block of point `t`, and the position of its row `r`. -/
def bOf (t : Fin cfg0.N) : Fin 8 := ⟨t.val / 6, by have := tLt t; omega⟩
def sOf (t : Fin cfg0.N) (r : Fin 1024) : Fin 2048 := ⟨1024 * (t.val / 3 % 2) + r.val, by omega⟩

section
variable (c : Dev nD) (t : Fin cfg0.N)

theorem blk0 (r j : Fin 1024) : (iblk m c 0 t : Vec Ideal S1024x1024 .f32) (ix2 r j) = (m ((c : Thread nD τ).loc main_arg0) : Vec Ideal S8x2048x1024 .f32) (ix3 (bOf t) (sOf t r) j) := by
  have e : (win0_0.blk t).view.emb (ix2 r j) = (ix2 (row (bOf t) (sOf t r)) j : S16384x1024.Idx) := by
    blk_ext [idx t, row, bOf, sOf]
  refine (congrArg (V m c main_v15) e).trans ?_
  rw [V15]
  exact rows_read ..
theorem blk1 (j : Fin 1024) : (iblk m c 1 t : Vec Ideal S1x1024 .f32) (ix2 0 j) = (m ((c : Thread nD τ).loc main_arg1) : Vec Ideal S1x1024 .f32) (ix2 0 j) := by
  have e : (win0_1.blk t).view.emb (ix2 0 j) = (ix2 0 j : S1x1024.Idx) := by
    blk_ext [idx t]
  refine (congrArg (V m c main_v14) e).trans ?_
  rw [V14]
  exact gain_read ..
theorem blk2 (k : Fin 1024) (j : Fin 2048) : (iblk m c 2 t : Vec Ideal S1024x2048 .bf16) (ix2 k j)
    = packed (m ((c : Thread nD τ).loc main_arg2)) (ix2 k ⟨2048 * (t.val % 3) + j.val, by omega⟩) := by
  have e : (win0_2.blk t).view.emb (ix2 k j) = (ix2 k ⟨2048 * (t.val % 3) + j.val, by omega⟩ : S1024x6144.Idx) := by
    blk_ext [idx t]
  refine (congrArg (V m c main_v8) e).trans ?_
  rw [V8]
  rfl
theorem blk3 (q : Fin 8) (k : Fin 1024) : (iblk m c 3 t : Vec Ideal S8x1024 .bf16) (ix2 q k) = (m ((c : Thread nD τ).loc main_arg2) : Vec Ideal S1x1024x5896 .f32) (ix3 0 k ⟨2048 + q.val, by omega⟩) := by
  have e : (win0_3.blk t).view.emb (ix2 q k) = (ix2 q k : S8x1024.Idx) := by
    blk_ext [idx t]
  refine (congrArg (V m c main_v12) e).trans ?_
  rw [V12]
  exact beta_read ..
end

/-- The whole packed projection. -/
def full (X : FVec Ideal S8x2048x1024 .f32) (G : FVec Ideal S1x1024 .f32) (W : FVec Ideal S1x1024x5896 .f32) : FVec Ideal S16384x6144 .f32 := fun i =>
  ∑ k : Fin 1024, nrm (fun l => X (ix3 ⟨(i 0).val / 2048, by have : (i 0).val < 16384 := (i 0).isLt; omega⟩ ⟨(i 0).val % 2048, by omega⟩ l)) (fun l => G (ix2 0 l)) k * packed W (ix2 k (i 1))

theorem full_row (X : FVec Ideal S8x2048x1024 .f32) (G : FVec Ideal S1x1024 .f32) (W : FVec Ideal S1x1024x5896 .f32) (b : Fin 8) (s : Fin 2048) (j : Fin 6144) :
    full X G W (ix2 (row b s) j) = ∑ k : Fin 1024, nrm (fun l => X (ix3 b s l)) (fun l => G (ix2 0 l)) k * packed W (ix2 k j) := by
  have e1 : (⟨(row b s).val / 2048, by have := (row b s).isLt; omega⟩ : Fin 8) = b := Fin.ext (by show (2048 * b.val + s.val) / 2048 = b.val; omega)
  have e2 : (⟨(row b s).val % 2048, by omega⟩ : Fin 2048) = s := Fin.ext (by show (2048 * b.val + s.val) % 2048 = s.val; omega)
  show ∑ k : Fin 1024, nrm (fun l => X (ix3 ⟨(row b s).val / 2048, _⟩ ⟨(row b s).val % 2048, _⟩ l)) (fun l => G (ix2 0 l)) k * packed W (ix2 k j) = _
  rw [e1, e2]

theorem full_col (X : FVec Ideal S8x2048x1024 .f32) (G : FVec Ideal S1x1024 .f32) (W : FVec Ideal S1x1024x5896 .f32) (b : Fin 8) (s : Fin 2048) (j : Fin 6144)
    (h : j.val < 3848 ∨ 4096 ≤ j.val) (hc : col j.val < 5896) : full X G W (ix2 (row b s) j) = proj X G W b s ⟨col j.val, hc⟩ := by
  rw [full_row]; unfold proj
  simp only [packed_col W _ j h hc]

theorem base_val (t : Fin cfg0.N) : (base t).val = 3 * (t.val / 3) := rfl
theorem bOf_base (t : Fin cfg0.N) : bOf (base t) = bOf t := Fin.ext (by show 3 * (t.val / 3) / 6 = t.val / 6; omega)
theorem sOf_base (t : Fin cfg0.N) (r : Fin 1024) : sOf (base t) r = sOf t r :=
  Fin.ext (by show 1024 * (3 * (t.val / 3) / 3 % 2) + r.val = 1024 * (t.val / 3 % 2) + r.val; omega)

theorem xn_eq (c : Dev nD) (t : Fin cfg0.N) (r k : Fin 1024) : xn m c t (ix2 r k)
    = nrm (fun l => (m ((c : Thread nD τ).loc main_arg0) : Vec Ideal S8x2048x1024 .f32) (ix3 (bOf t) (sOf t r) l)) (fun l => (m ((c : Thread nD τ).loc main_arg1) : Vec Ideal S1x1024 .f32) (ix2 0 l)) k := by
  unfold xn
  refine (pay1_eq _ _ r k).trans ?_
  simp only [blk0, blk1, bOf_base, sOf_base]

/-- Every cell of the packed projection. -/
theorem final4 (c : Dev nD) : (dats m 0 c).arrAt 4 (cfgs 0).N
    = full (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  have e : ((cfg0.win 4).blk t).view.emb (ix2 y0 y1) = (ix2 (row (bOf t) (sOf t y0)) ⟨2048 * (t.val % 3) + y1.val, by omega⟩ : S16384x6144.Idx) := by
    blk_ext [idx t, row, bOf, sOf]
  refine Eq.trans ?_ ((congrArg (full _ _ _) e).trans (full_row _ _ _ (bOf t) (sOf t y0) _)).symm
  blk_simp
  rw [after0_4]
  refine (pay3_eq _ _ y0 y1).trans ?_
  simp only [xn_eq, blk2]

/-- Every cell of the transposed beta projection. -/
theorem final5 (c : Dev nD) : (dats m 0 c).arrAt 5 (cfgs 0).N
    = Cert.Reference2Ideal.Read.val_main_v22 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  idx_vars y
  have e : ((cfg0.win 5).blk t).view.emb (ix2 y0 y1) = (ix2 y0 (row (bOf t) (sOf t y1)) : S8x16384.Idx) := by
    blk_ext [idx t, row, bOf, sOf]
  refine Eq.trans ?_ ((congrArg (Cert.Reference2Ideal.Read.val_main_v22 (F := Ideal) _ _ _) e).trans (ref_beta _ _ _ (bOf t) (sOf t y1) y0)).symm
  blk_simp
  rw [after0_5]
  refine (pay2_eq _ _ y0 y1).trans ?_
  unfold proj
  refine Finset.sum_congr rfl fun k _ => ?_
  rw [xn_eq, blk3]
  exact mul_comm _ _
end Cert.Kernel2Ideal.Np
-- ==== Proof.NormPromptTail.lean ====
module

public import proofs.«01_k».proof.Proof.NormPrompt
@[expose] public section

set_option maxRecDepth 16384
noncomputable section
namespace Cert.Kernel2Ideal.Np
open Cert.Kernel2Ideal Cert.Kernel2Ideal.Gen
open Idealize.ShloMosaic Idealize.ShloMosaic.TcCoe Idealize.SL.Sem
open Idealize.ShloMosaic.Pipeline (Dat)

/-! ## The slices the host takes of the packed projection -/

/-- The packed projection with a sequence axis and a position axis. -/
def flat (Y : FVec Ideal S16384x6144 .f32) : FVec Ideal S8x2048x6144 .f32 := shapeCast S8x2048x6144 Y shapeCasts_S16384x6144_S8x2048x6144
theorem flat_read (Y : FVec Ideal S16384x6144 .f32) (b : Fin 8) (s : Fin 2048) (j : Fin 6144) : flat Y (ix3 b s j) = Y (ix2 (row b s) j) := by
  pointwise [flat]
  exact congrArg (fun r => Y (ix2 r j)) (Fin.ext (by show b.val * 2048 + s.val = 2048 * b.val + s.val; omega))

section Slices
open Cert.Reference2Ideal.Read
variable (X : FVec Ideal S8x2048x1024 .f32) (G : FVec Ideal S1x1024 .f32) (W : FVec Ideal S1x1024x5896 .f32)

/-- A column of the packed projection that is column `q` of the projection. -/
theorem flat_col (b : Fin 8) (s : Fin 2048) (j : Fin 6144) (q : Fin 5896) (h : j.val < 3848 ∨ 4096 ≤ j.val) (hq : col j.val = q.val) :
    flat (full X G W) (ix3 b s j) = val_main_v15 (F := Ideal) X G W (ix3 b s q) := by
  rw [flat_read, full_col X G W b s j h (hq ▸ q.isLt), ref_proj]
  exact congrArg (proj X G W b s) (Fin.ext hq)

theorem slice_dn : extractStridedSlice S8x2048x2048 ![0, 0, 0] (flat (full X G W)) slices_S8x2048x6144_S8x2048x2048_0_0_0 = val_main_v16 (F := Ideal) X G W := by
  funext y; idx_vars y
  pointwise [val_main_v16]
  exact flat_col X G W _ _ _ _ (Or.inl (by dsimp only; omega)) (by unfold col; dsimp only; split_ifs <;> omega)
theorem slice_beta : extractStridedSlice S8x2048x8 ![0, 0, 3840] (flat (full X G W)) slices_S8x2048x6144_S8x2048x8_0_0_3840 = val_main_v17 (F := Ideal) X G W := by
  funext y; idx_vars y
  pointwise [val_main_v17]
  exact flat_col X G W _ _ _ _ (Or.inl (by dsimp only; omega)) (by unfold col; dsimp only; split_ifs <;> omega)
theorem slice_rw : extractStridedSlice S8x2048x1792 ![0, 0, 2048] (flat (full X G W)) slices_S8x2048x6144_S8x2048x1792_0_0_2048 = val_main_v18 (F := Ideal) X G W := by
  funext y; idx_vars y
  pointwise [val_main_v18]
  exact flat_col X G W _ _ _ _ (Or.inl (by dsimp only; omega)) (by unfold col; dsimp only; split_ifs <;> omega)
theorem slice_gate : extractStridedSlice S8x2048x2048 ![0, 0, 4096] (flat (full X G W)) slices_S8x2048x6144_S8x2048x2048_0_0_4096 = val_main_v19 (F := Ideal) X G W := by
  funext y; idx_vars y
  pointwise [val_main_v19]
  exact flat_col X G W _ _ _ _ (Or.inr (by dsimp only; omega)) (by unfold col; dsimp only; split_ifs <;> omega)
theorem slice_conv : broadcastInDim S1x8x3x1536 ![1, 2, 3] bcast_S8x3x1536_S1x8x3x1536_1_2_3
    (extractStridedSlice S8x3x1536 ![0, 2045, 0] (flat (full X G W)) slices_S8x2048x6144_S8x3x1536_0_2045_0) = val_main_v24 (F := Ideal) X G W := by
  funext y; idx_vars y
  pointwise [val_main_v24, val_main_v23]
  exact flat_col X G W _ _ _ _ (Or.inl (by dsimp only; omega)) (by unfold col; dsimp only; split_ifs <;> omega)
theorem slice_shift : broadcastInDim S1x8x1x1792 ![1, 2, 3] bcast_S8x1x1792_S1x8x1x1792_1_2_3
    (extractStridedSlice S8x1x1792 ![0, 2047, 2048] (flat (full X G W)) slices_S8x2048x6144_S8x1x1792_0_2047_2048) = val_main_v26 (F := Ideal) X G W := by
  funext y; idx_vars y
  pointwise [val_main_v26, val_main_v25]
  exact flat_col X G W _ _ _ _ (Or.inl (by dsimp only; omega)) (by unfold col; dsimp only; split_ifs <;> omega)
end Slices

/-! ## What the host operations after the region leave, over any valuation -/

section Host
variable (ψ : Valuation τ sig (Elt Ideal))
theorem host20 : StableHlo.after (List.flatten [hostOps1]) ψ (Proc.devRef .tc main_v20)
    = extractStridedSlice S8x2048x2048 ![0, 0, 0] (flat (ψ (Proc.devRef .tc main_v16_0))) slices_S8x2048x6144_S8x2048x2048_0_0_0 := by unfold flat; rfl
theorem host21 : StableHlo.after (List.flatten [hostOps1]) ψ (Proc.devRef .tc main_v21)
    = extractStridedSlice S8x2048x8 ![0, 0, 3840] (flat (ψ (Proc.devRef .tc main_v16_0))) slices_S8x2048x6144_S8x2048x8_0_0_3840 := by unfold flat; rfl
theorem host22 : StableHlo.after (List.flatten [hostOps1]) ψ (Proc.devRef .tc main_v22)
    = extractStridedSlice S8x2048x1792 ![0, 0, 2048] (flat (ψ (Proc.devRef .tc main_v16_0))) slices_S8x2048x6144_S8x2048x1792_0_0_2048 := by unfold flat; rfl
theorem host23 : StableHlo.after (List.flatten [hostOps1]) ψ (Proc.devRef .tc main_v23)
    = extractStridedSlice S8x2048x2048 ![0, 0, 4096] (flat (ψ (Proc.devRef .tc main_v16_0))) slices_S8x2048x6144_S8x2048x2048_0_0_4096 := by unfold flat; rfl
theorem host24 : StableHlo.after (List.flatten [hostOps1]) ψ (Proc.devRef .tc main_v24)
    = broadcastInDim S1x8x3x1536 ![1, 2, 3] bcast_S8x3x1536_S1x8x3x1536_1_2_3
      (extractStridedSlice S8x3x1536 ![0, 2045, 0] (flat (ψ (Proc.devRef .tc main_v16_0))) slices_S8x2048x6144_S8x3x1536_0_2045_0) := by unfold flat; rfl
theorem host25 : StableHlo.after (List.flatten [hostOps1]) ψ (Proc.devRef .tc main_v25)
    = broadcastInDim S1x8x1x1792 ![1, 2, 3] bcast_S8x1x1792_S1x8x1x1792_1_2_3
      (extractStridedSlice S8x1x1792 ![0, 2047, 2048] (flat (ψ (Proc.devRef .tc main_v16_0))) slices_S8x2048x6144_S8x1x1792_0_2047_2048) := by unfold flat; rfl
end Host

variable (m : (ℓ : Loc nD τ sig) → Buf (Elt Ideal) ℓ) (ρ : Dev nD → PrngReg)

/-- The packed projection as the host operations find it. -/
theorem arr4 (c : Dev nD) : Pipeline.withArrays (cfgs 0).spec c (V0 m c) (fun w => (dats m 0 c).arrAt w (cfgs 0).N) (Proc.devRef .tc main_v16_0)
    = full (m ((c : Thread nD τ).loc main_arg0)) (m ((c : Thread nD τ).loc main_arg1)) (m ((c : Thread nD τ).loc main_arg2)) :=
  (Pipeline.withArrays_arr (cfgs 0).spec launch0.win.arr_inj c (V0 m c) (fun w => (dats m 0 c).arrAt w (cfgs 0).N) 4).trans (final4 m c)

/-- The run, with every result the value of the plain reference of the arguments. -/
theorem run_values : θ_run (defs (F := Ideal)) (onTc (τ := τ) (main (F := Ideal))) ⟨m, fun _ => 0, ρ⟩ (fun r => ∀ c : Dev nD,
    r.2.mem ((c.tc : Thread nD τ).loc main_v20) = Cert.Reference2Ideal.Read.val_main_v16 (F := Ideal) (m ((c.tc : Thread nD τ).loc main_arg0)) (m ((c.tc : Thread nD τ).loc main_arg1)) (m ((c.tc : Thread nD τ).loc main_arg2))
    ∧ r.2.mem ((c.tc : Thread nD τ).loc main_v21) = Cert.Reference2Ideal.Read.val_main_v17 (F := Ideal) (m ((c.tc : Thread nD τ).loc main_arg0)) (m ((c.tc : Thread nD τ).loc main_arg1)) (m ((c.tc : Thread nD τ).loc main_arg2))
    ∧ r.2.mem ((c.tc : Thread nD τ).loc main_v22) = Cert.Reference2Ideal.Read.val_main_v18 (F := Ideal) (m ((c.tc : Thread nD τ).loc main_arg0)) (m ((c.tc : Thread nD τ).loc main_arg1)) (m ((c.tc : Thread nD τ).loc main_arg2))
    ∧ r.2.mem ((c.tc : Thread nD τ).loc main_v23) = Cert.Reference2Ideal.Read.val_main_v19 (F := Ideal) (m ((c.tc : Thread nD τ).loc main_arg0)) (m ((c.tc : Thread nD τ).loc main_arg1)) (m ((c.tc : Thread nD τ).loc main_arg2))
    ∧ r.2.mem ((c.tc : Thread nD τ).loc main_v16_1) = Cert.Reference2Ideal.Read.val_main_v22 (F := Ideal) (m ((c.tc : Thread nD τ).loc main_arg0)) (m ((c.tc : Thread nD τ).loc main_arg1)) (m ((c.tc : Thread nD τ).loc main_arg2))
    ∧ r.2.mem ((c.tc : Thread nD τ).loc main_v24) = Cert.Reference2Ideal.Read.val_main_v24 (F := Ideal) (m ((c.tc : Thread nD τ).loc main_arg0)) (m ((c.tc : Thread nD τ).loc main_arg1)) (m ((c.tc : Thread nD τ).loc main_arg2))
    ∧ r.2.mem ((c.tc : Thread nD τ).loc main_v25) = Cert.Reference2Ideal.Read.val_main_v26 (F := Ideal) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run _ _ _).mono (fun r h c => ?_) (run_main (F := Ideal) m ρ)
  refine ⟨?_, ?_, ?_, ?_, ?_, ?_, ?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩
  · refine ((h c).2 main_v20 (Pipeline.mem_restRefs_of main_v20 (by decide) (by decide))).trans ((host20 _).trans ?_)
    rw [arr4]; exact slice_dn _ _ _
  · refine ((h c).2 main_v21 (Pipeline.mem_restRefs_of main_v21 (by decide) (by decide))).trans ((host21 _).trans ?_)
    rw [arr4]; exact slice_beta _ _ _
  · refine ((h c).2 main_v22 (Pipeline.mem_restRefs_of main_v22 (by decide) (by decide))).trans ((host22 _).trans ?_)
    rw [arr4]; exact slice_rw _ _ _
  · refine ((h c).2 main_v23 (Pipeline.mem_restRefs_of main_v23 (by decide) (by decide))).trans ((host23 _).trans ?_)
    rw [arr4]; exact slice_gate _ _ _
  · exact ((h c).1 5).trans (final5 m c)
  · refine ((h c).2 main_v24 (Pipeline.mem_restRefs_of main_v24 (by decide) (by decide))).trans ((host24 _).trans ?_)
    rw [arr4]; exact slice_conv _ _ _
  · refine ((h c).2 main_v25 (Pipeline.mem_restRefs_of main_v25 (by decide) (by decide))).trans ((host25 _).trans ?_)
    rw [arr4]; exact slice_shift _ _ _

end Cert.Kernel2Ideal.Np
-- ==== Proof.Merge.lean ====
module

public import proofs.«01_k».proof.Proof.Gen.Kernel3Ideal.Value
public import proofs.«01_k».proof.Proof.Gen.Reference3Ideal.Read
public import Idealize.ShloMosaic.Lib.Claim
public import Idealize.ShloMosaic.Lib.Pointwise
public import Idealize.ShloMosaic.Lib.Pipeline.ValueKit
@[expose] public section

set_option maxRecDepth 16384
noncomputable section
namespace Cert.Kernel3Ideal.Mg
open Cert.Kernel3Ideal Cert.Kernel3Ideal.Gen
open Idealize.ShloMosaic Idealize.ShloMosaic.TcCoe Idealize.SL.Sem
open Idealize.ShloMosaic.Pipeline (Dat)

/-- One entry of the gated sum of the two branches: each branch's row goes through its up-projection and its gate. -/
def mixed (ga gb : EReal) (od wd ow wr : Fin 512 → EReal) : EReal :=
  Ideal.logistic ga * (∑ l, od l * wd l) + Ideal.logistic gb * (∑ l, ow l * wr l)

/-- What the body stores, entry by entry. -/
theorem tile (x0 : Vec Ideal S1024x1024 .f32) (x1 x2 : Vec Ideal S1024x512 .bf16) (x3 : Vec Ideal S1024x2048 .f32)
    (x4 x5 : Vec Ideal S512x1024 .bf16) (x6 : Vec Ideal S1024x1024 .bf16) (r j : Fin 1024) :
    out0_7 x0 x1 x2 x3 x4 x5 x6 (ix2 r j) = x0 (ix2 r j) + ∑ k : Fin 1024,
      mixed (x3 (ix2 r ⟨k.val, by omega⟩)) (x3 (ix2 r ⟨1024 + k.val, by omega⟩)) (fun l => x1 (ix2 r l)) (fun l => x4 (ix2 l k))
        (fun l => x2 (ix2 r l)) (fun l => x5 (ix2 l k)) * x6 (ix2 k j) := by
  unfold out0_7
  frame_out
  pointwise [k0_pay1, mixed]

section Ref
open Cert.Reference3Ideal.Read
variable (X : FVec Ideal Cert.Reference3Ideal.S8x2048x1024 .f32) (O1 O2 : FVec Ideal Cert.Reference3Ideal.S8x2048x512 .bf16)
  (P : FVec Ideal Cert.Reference3Ideal.S8x2048x5896 .f32) (W1 W2 : FVec Ideal Cert.Reference3Ideal.S1x512x1024 .f32) (WO : FVec Ideal Cert.Reference3Ideal.S1x1024x1024 .f32)

def mT (b : Fin 8) (s : Fin 2048) (k : Fin 1024) : EReal :=
  mixed (P (ix3 b s ⟨3848 + k.val, by omega⟩)) (P (ix3 b s ⟨4872 + k.val, by omega⟩)) (fun l => O1 (ix3 b s l)) (fun l => W1 (ix3 0 l k))
    (fun l => O2 (ix3 b s l)) (fun l => W2 (ix3 0 l k))
def hT (b : Fin 8) (s : Fin 2048) (j : Fin 1024) : EReal := X (ix3 b s j) + ∑ k, mT O1 O2 P W1 W2 b s k * WO (ix3 0 k j)

theorem gate_a (b : Fin 8) (s : Fin 2048) (k : Fin 1024) : val_main_v6 (F := Ideal) P (ix3 b s k) = Ideal.logistic (P (ix3 b s ⟨3848 + k.val, by omega⟩)) := by
  pointwise [val_main_v6, val_main_v5, val_main_v4, val_main_v3, val_main_v2, val_main_v1, val_main_v0, val_main_cst, val_main_cst_0]
  rfl
theorem gate_b (b : Fin 8) (s : Fin 2048) (k : Fin 1024) : val_main_v13 (F := Ideal) P (ix3 b s k) = Ideal.logistic (P (ix3 b s ⟨4872 + k.val, by omega⟩)) := by
  pointwise [val_main_v13, val_main_v12, val_main_v11, val_main_v10, val_main_v9, val_main_v8, val_main_v7, val_main_cst_1, val_main_cst_2]
  rfl
theorem m_eq (b : Fin 8) (s : Fin 2048) (k : Fin 1024) : val_main_v22 (F := Ideal) O1 O2 P W1 W2 (ix3 b s k) = mT O1 O2 P W1 W2 b s k := by
  pointwise [val_main_v22, val_main_v21, val_main_v20, val_main_v19, val_main_v18, val_main_v17, val_main_v16, val_main_v15, val_main_v14, gate_a, gate_b, mT, mixed]
theorem h_eq (b : Fin 8) (s : Fin 2048) (j : Fin 1024) : val_main_v26 (F := Ideal) X O1 O2 P W1 W2 WO (ix2 ⟨2048 * b.val + s.val, by omega⟩ j) = hT X O1 O2 P W1 W2 WO b s j := by
  pointwise [val_main_v26, val_main_v25, val_main_v24, val_main_v23, m_eq, hT]
end Ref

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![0, 0] ∧ win0_5.index t = ![0, 0] ∧ win0_6.index t = ![0, 0] ∧ win0_7.index t = ![t.val, 0] :=
  (by decide +kernel : ∀ t : Fin grid0.N, _)

theorem tLt (t : Fin cfg0.N) : t.val < 16 := t.isLt

/-- The sequence of the block of point `t`, and the position of its row `r`. -/
def bOf (t : Fin cfg0.N) : Fin 8 := ⟨t.val / 2, by have := tLt t; omega⟩
def sOf (t : Fin cfg0.N) (r : Fin 1024) : Fin 2048 := ⟨1024 * (t.val % 2) + r.val, by omega⟩
def row (b : Fin 8) (s : Fin 2048) : Fin 16384 := ⟨2048 * b.val + s.val, by omega⟩

/-- The packed projection: the gate columns are the last slab. -/
def packed (x : FVec Ideal S8x2048x5896 .f32) : FVec Ideal S16384x6144 .f32 :=
  have v0 : FVec Ideal S16384x5896 .f32 := shapeCast S16384x5896 x shapeCasts_S8x2048x5896_S16384x5896
  concatenate S16384x6144 1 [⟨S16384x2048, extractStridedSlice S16384x2048 ![0, 0] v0 slices_S16384x5896_S16384x2048_0_0⟩,
    ⟨S16384x2048, concatenate S16384x2048 1 [⟨S16384x1792, extractStridedSlice S16384x1792 ![0, 2056] v0 slices_S16384x5896_S16384x1792_0_2056⟩,
      ⟨S16384x8, extractStridedSlice S16384x8 ![0, 2048] v0 slices_S16384x5896_S16384x8_0_2048⟩,
      ⟨S16384x248, broadcastInDim S16384x248 ![] bcast_S_S16384x248 (constant S_ .f32 0x00000000#32)⟩] concatenates_S16384x1792_S16384x8_S16384x248_S16384x2048_d1⟩,
    ⟨S16384x2048, extractStridedSlice S16384x2048 ![0, 3848] v0 slices_S16384x5896_S16384x2048_0_3848⟩] concatenates_S16384x2048_S16384x2048_S16384x2048_S16384x6144_d1

theorem packed_gate (x : FVec Ideal S8x2048x5896 .f32) (b : Fin 8) (s : Fin 2048) (j : Fin 2048) :
    packed x (ix2 (row b s) ⟨4096 + j.val, by omega⟩) = x (ix3 b s ⟨3848 + j.val, by omega⟩) := by
  unfold row
  pointwise [packed]
  rw [dif_neg (by omega), dif_neg (by omega)]
  exact congrArg (fun q => x (ix3 b s q)) (Fin.ext (by show 3848 + (4096 + j.val - 2048 - 2048) = 3848 + j.val; omega))

theorem V7 (c : Dev nD) : V m c main_v7 = packed (m ((c : Thread nD τ).loc main_arg3)) := by
  unfold packed
  rfl

section
variable (c : Dev nD) (t : Fin cfg0.N)

theorem blk0 (r j : Fin 1024) : (iblk m c 0 t : Vec Ideal S1024x1024 .f32) (ix2 r j) = (m ((c : Thread nD τ).loc main_arg0) : Vec Ideal S8x2048x1024 .f32) (ix3 (bOf t) (sOf t r) j) := by
  have e : (win0_0.blk t).view.emb (ix2 r j) = (ix2 (row (bOf t) (sOf t r)) j : S16384x1024.Idx) := by
    blk_ext [idx t, row, bOf, sOf]
  refine (congrArg (V m c main_v14) e).trans ?_
  unfold row
  entry_read
  pointwise []
theorem blk1 (r : Fin 1024) (l : Fin 512) : (iblk m c 1 t : Vec Ideal S1024x512 .bf16) (ix2 r l) = (m ((c : Thread nD τ).loc main_arg1) : Vec Ideal S8x2048x512 .bf16) (ix3 (bOf t) (sOf t r) l) := by
  have e : (win0_1.blk t).view.emb (ix2 r l) = (ix2 (row (bOf t) (sOf t r)) l : S16384x512.Idx) := by
    blk_ext [idx t, row, bOf, sOf]
  refine (congrArg (V m c main_v15) e).trans ?_
  unfold row
  entry_read
  pointwise []
theorem blk2 (r : Fin 1024) (l : Fin 512) : (iblk m c 2 t : Vec Ideal S1024x512 .bf16) (ix2 r l) = (m ((c : Thread nD τ).loc main_arg2) : Vec Ideal S8x2048x512 .bf16) (ix3 (bOf t) (sOf t r) l) := by
  have e : (win0_2.blk t).view.emb (ix2 r l) = (ix2 (row (bOf t) (sOf t r)) l : S16384x512.Idx) := by
    blk_ext [idx t, row, bOf, sOf]
  refine (congrArg (V m c main_v16) e).trans ?_
  unfold row
  entry_read
  pointwise []
theorem blk3 (r : Fin 1024) (j : Fin 2048) : (iblk m c 3 t : Vec Ideal S1024x2048 .f32) (ix2 r j) = (m ((c : Thread nD τ).loc main_arg3) : Vec Ideal S8x2048x5896 .f32) (ix3 (bOf t) (sOf t r) ⟨3848 + j.val, by omega⟩) := by
  have e : (win0_3.blk t).view.emb (ix2 r j) = (ix2 (row (bOf t) (sOf t r)) ⟨4096 + j.val, by omega⟩ : S16384x6144.Idx) := by
    blk_ext [idx t, row, bOf, sOf]
  refine (congrArg (V m c main_v7) e).trans ?_
  rw [V7]
  exact packed_gate ..
theorem blk4 (l : Fin 512) (k : Fin 1024) : (iblk m c 4 t : Vec Ideal S512x1024 .bf16) (ix2 l k) = (m ((c : Thread nD τ).loc main_arg4) : Vec Ideal S1x512x1024 .f32) (ix3 0 l k) := by
  have e : (win0_4.blk t).view.emb (ix2 l k) = (ix2 l k : S512x1024.Idx) := by
    blk_ext [idx t]
  refine (congrArg (V m c main_v9) e).trans ?_
  entry_read
  pointwise []
theorem blk5 (l : Fin 512) (k : Fin 1024) : (iblk m c 5 t : Vec Ideal S512x1024 .bf16) (ix2 l k) = (m ((c : Thread nD τ).loc main_arg5) : Vec Ideal S1x512x1024 .f32) (ix3 0 l k) := by
  have e : (win0_5.blk t).view.emb (ix2 l k) = (ix2 l k : S512x1024.Idx) := by
    blk_ext [idx t]
  refine (congrArg (V m c main_v11) e).trans ?_
  entry_read
  pointwise []
theorem blk6 (k j : Fin 1024) : (iblk m c 6 t : Vec Ideal S1024x1024 .bf16) (ix2 k j) = (m ((c : Thread nD τ).loc main_arg6) : Vec Ideal S1x1024x1024 .f32) (ix3 0 k j) := by
  have e : (win0_6.blk t).view.emb (ix2 k j) = (ix2 k j : S1024x1024.Idx) := by
    blk_ext [idx t]
  refine (congrArg (V m c main_v13) e).trans ?_
  entry_read
  pointwise []
end

/-- Every cell of the merged rows. -/
theorem final7 (c : Dev nD) : (dats m 0 c).arrAt 7 (cfgs 0).N
    = Cert.Reference3Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  idx_vars y
  have e : ((cfg0.win 7).blk t).view.emb (ix2 y0 y1) = (ix2 (row (bOf t) (sOf t y0)) y1 : S16384x1024.Idx) := by
    blk_ext [idx t, row, bOf, sOf]
  refine Eq.trans ?_ ((congrArg (Cert.Reference3Ideal.Read.val_main_v26 (F := Ideal) _ _ _ _ _ _ _) e).trans (h_eq _ _ _ _ _ _ _ (bOf t) (sOf t y0) y1)).symm
  blk_simp
  rw [after0_7]
  refine (tile _ _ _ _ _ _ _ y0 y1).trans ?_
  unfold hT mT
  simp only [blk0, blk1, blk2, blk3, blk4, blk5, blk6]
  refine congrArg _ (Finset.sum_congr rfl fun k _ => ?_)
  have e2 : (⟨3848 + (1024 + k.val), by omega⟩ : Fin 5896) = ⟨4872 + k.val, by omega⟩ := Fin.ext (by simp; omega)
  rw [e2]
end Cert.Kernel3Ideal.Mg
-- ==== Proof.NormSampleRun.lean ====
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.Pipeline.TableIdle
public import Idealize.ShloMosaic.Lib.VecWindow
@[expose] public section

set_option maxRecDepth 16384
noncomputable section
namespace Cert.Kernel4Ideal.Np
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S8x1024 .bf16) (harg5 : arg5.IsWhole) (arg6 : Memref sig .tc .vmem S128x2048 .f32) (harg6 : arg6.IsWhole) (arg7 : Memref sig .tc .vmem S8x128 .f32) (harg7 : arg7.IsWhole) (arg8 : Memref sig .tc .vmem S128x1024 .bf16) (harg8 : arg8.IsWhole)
  (x : Vec F S128x1024 .f32) (g : Vec F S1x1024 .f32) (w : Vec F S1024x2048 .bf16) (wb : Vec F S8x1024 .bf16)

/-- The body where the second grid coordinate is zero: it fills the scratch with the normalised rows. -/
theorem body_first (hc0 : k0_cond1 i = 1#1) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wb
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wb
          ∗ owns (c : Thread nD τ) arg6 fullShare (k0_pay3 (k0_pay1 x g) w) ∗ owns (c : Thread nD τ) arg7 fullShare (k0_pay2 wb (k0_pay1 x g)) ∗ owns (c : Thread nD τ) arg8 fullShare (k0_pay1 x g)) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold body_first.sl.v30 body_first.sl.HS_1
    exact (View.read_writes_full _ _ _ _ _).trans (congrArg₂ k0_pay3 ((View.readCov_full _ _ _ _ _).trans
      (congrArg₂ k0_pay1 ((View.readAt_full _ _ _).trans hf0) ((View.readAt_full _ _ _).trans hf1))) ((View.readAt_full _ _ _).trans hf2))
  isplitl [H5]
  · iexists _; isplitr; swap; · iexact H5
    ipureintro
    unfold body_first.sl.v30 body_first.sl.HS_1
    exact (View.read_writes_full _ _ _ _ _).trans (congrArg₂ k0_pay2 ((View.readAt_full _ _ _).trans hf3) ((View.readCov_full _ _ _ _ _).trans
      (congrArg₂ k0_pay1 ((View.readAt_full _ _ _).trans hf0) ((View.readAt_full _ _ _).trans hf1))))
  iexists _; isplitr; swap; · iexact HS
  ipureintro
  unfold body_first.sl.HS_1
  exact (View.read_writes_full _ _ _ _ _).trans (congrArg₂ k0_pay1 ((View.readAt_full _ _ _).trans hf0) ((View.readAt_full _ _ _).trans hf1))

/-- The body elsewhere: the scratch already holds the normalised rows, and the beta window is not touched. -/
theorem body_next (hc0 : ¬ k0_cond1 i = 1#1) (xn : Vec F S128x1024 .bf16) (E : Set ℕ) (K : PUnit → sProp 𝕄) :
    iprop(owns (c : Thread nD τ) arg4 fullShare w
        ∗ (∃ d, owns (c : Thread nD τ) arg6 fullShare d) ∗ owns (c : Thread nD τ) arg8 fullShare xn
        ∗ (iprop(owns (c : Thread nD τ) arg4 fullShare w
          ∗ owns (c : Thread nD τ) arg6 fullShare (k0_pay3 xn w) ∗ owns (c : Thread nD τ) arg8 fullShare xn) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f2, %hf2, H2⟩, ⟨%d4, %f4, -, H4⟩, ⟨%fs, %hfs, HS⟩, Hk⟩
  obtain rfl := harg4.eq_unread hf2; obtain rfl := harg8.eq_unread hfs
  sl_exec (disch := first | sl_exact hc0)
  sl_step
  iapply Hk
  isplitl [H2]
  · iexists _; isplitr; · ipureintro; exact harg4.read_unread _
    iexact H2
  isplitl [H4]
  · iexists _; isplitr; swap; · iexact H4
    ipureintro
    exact (View.read_writes_full _ _ _ _ _).trans (congrArg₂ k0_pay3 ((View.readAt_full _ _ _).trans hfs) ((View.readAt_full _ _ _).trans hf2))
  iexists _; isplitr; · ipureintro; exact harg8.read_unread _
  iexact HS

end Body

variable (m : (ℓ : Loc nD τ sig) → Buf (Elt F) ℓ) (ρ : Dev nD → PrngReg)

/-- The first grid point of the row block that point `t` works on. -/
def base (t : Fin cfg0.N) : Fin cfg0.N := ⟨3 * (t.val / 3), by have := t.isLt; omega⟩
/-- The normalised rows of the row block of point `t`. -/
def xn (c : Dev nD) (t : Fin cfg0.N) : Vec F S128x1024 .bf16 := k0_pay1 (iblk m c 0 (base t)) (iblk m c 1 (base t))

theorem base_first (t : Fin cfg0.N) (h : t.val % 3 = 0) : base t = t := Fin.ext (by show 3 * (t.val / 3) = t.val; omega)
theorem base_pred (t : Fin cfg0.N) (h : t.val % 3 ≠ 0) : base ⟨t.val - 1, by omega⟩ = base t :=
  Fin.ext (by show 3 * ((t.val - 1) / 3) = 3 * (t.val / 3); omega)

abbrev scM : Memref sig .tc .vmem S128x1024 .bf16 := Memref.whole cc0_scratch0

/-- The scratch between two points: inside a row block it holds that block's normalised rows. -/
def scr (c : Dev nD) (n : ℕ) : sProp 𝕄 :=
  if h : n % 3 = 0 ∨ ¬ n < cfg0.N then iprop(∃ d, owns (c : Thread nD τ) scM fullShare d)
  else owns (c : Thread nD τ) scM fullShare (xn m c ⟨n, by omega⟩)

theorem scr_in (c : Dev nD) (t : Fin cfg0.N) (h : t.val % 3 ≠ 0) : scr m c t.val = owns (c : Thread nD τ) scM fullShare (xn m c t) := by
  unfold scr; rw [dif_neg (by have := t.isLt; omega)]
theorem scr_at (c : Dev nD) (n : ℕ) (h : n % 3 = 0) : scr m c n = iprop(∃ d, owns (c : Thread nD τ) scM fullShare d) := by
  unfold scr; rw [dif_pos (Or.inl h)]
theorem scr_out (c : Dev nD) (t : Fin cfg0.N) : owns (c : Thread nD τ) scM fullShare (xn m c t) ⊢ scr m c (t.val + 1) := by
  unfold scr
  split
  · iintro H; iexists _; iexact H
  · next h =>
    have e : xn m c ⟨t.val + 1, by omega⟩ = xn m c t := by
      unfold xn; rw [← base_pred ⟨t.val + 1, by omega⟩ (fun h0 => h (.inl h0))]; rfl
    rw [e]

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (xn m c t) (iblk m c 2 t)
    | ⟨5, _⟩ => k0_pay2 (iblk m c 3 (base t)) (xn m c t)
  Φ t := iprop(scr m c t.val ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (xn m c t) (iblk m c 2 t) := by dsimp only [dats]
theorem after0_5 (c : Dev nD) (t : Fin cfg0.N) : (dats m 0 c).after 5 t = k0_pay2 (iblk m c 3 (base t)) (xn m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem cond_iff : ∀ t : Fin cfg0.N, k0_cond1 (grid0.coords t) = 1#1 ↔ t.val % 3 = 0 := by decide +kernel
theorem idle_iff (t : Fin cfg0.N) : cfg0.idle 5 (cfg0.grid.coords t) = true ↔ t.val % 3 ≠ 0 := by
  rw [show cfg0.idle 5 (cfg0.grid.coords t) = !(k0_cond1 (grid0.coords t) == 1#1) from rfl, Ne, ← cond_iff t]
  simp
/-- The beta window's buffer is fresh exactly at the first point of a row block. -/
theorem fresh5 (n : ℕ) (h : n ≤ cfg0.N) : cfg0.fresh 5 n = (n % 3 == 0) :=
  cfg0.fresh_tab 5 (fun n => n % 3 == 0) rfl (fun t => by
    rw [Bool.eq_iff_iff, Bool.or_eq_true, Bool.and_eq_true, idle_iff, flush0_5, beq_iff_eq, beq_iff_eq]; omega) n h

theorem before0_5 (c : Dev nD) (t : Fin cfg0.N) (h : t.val % 3 ≠ 0) (d) : (dats m 0 c).before 5 t d = (dats m 0 c).after 5 t := by
  have carry : ∀ t : Fin cfg0.N, t.val % 3 ≠ 0 → (dats m 0 c).after 5 t = (dats m 0 c).after 5 ⟨t.val - 1, by omega⟩ := fun t h => by
    rw [after0_5, after0_5]; unfold xn; rw [base_pred t h]
  rw [(dats m 0 c).before_out_traj 5 rfl (fun _ _ => rfl) (fun t _ hi _ => carry t ((idle_iff t).mp hi)) t.val t rfl d,
    fresh5 _ (Nat.le_of_lt t.isLt), if_neg (by rw [beq_iff_eq]; exact h)]
  exact (carry t h).symm

/-- A buffer at what the body leaves meets the obligation, at an idle point too when the body found the same. -/
theorem leaves_after (c : Dev nD) (t : Fin cfg0.N) (h : t.val % 3 ≠ 0) :
    owns (c : Thread nD τ) (st0_5 t) fullShare ((dats m 0 c).after 5 t) ⊢ (dats m 0 c).leavesExact 5 t := by
  unfold Dat.leavesExact
  rw [(idle_iff t).mpr h]
  cases hf : (cfg0.win 5).flush t
  · iintro H; iexists default; rw [before0_5 m c t h]; iexact H
  · exact .rfl

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem Phi_at (c : Dev nD) (t : Fin (cfg0.N + 1)) : (dats m 0 c).Φ t = iprop(scr m c t.val ∗ ∃ r, prngReg c r) := by dsimp only [dats]

set_option maxHeartbeats 1200000 in
/-- The body at every point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, Phi_at, Phi_at,
    after0_0, after0_1, after0_2, after0_3, after0_4]
  rw [show t.castSucc.val = t.val from rfl, show t.succ.val = t.val + 1 from rfl]
  by_cases h : t.val % 3 = 0
  · rw [scr_at m c t.val h]
    have hl : (dats m 0 c).leavesExact 5 t = owns (c : Thread nD τ) (st0_5 t) fullShare ((dats m 0 c).after 5 t) := by
      unfold Dat.leavesExact
      rw [Bool.eq_false_iff.mpr (fun hi => (idle_iff t).mp hi h)]
    have hx : xn m c t = k0_pay1 (iblk m c 0 t) (iblk m c 1 t) := by unfold xn; rw [base_first t h]
    rw [hl, after0_5, base_first t h]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [← hx]
    iintro ⟨H0, H1, H2, H3, H4, H5, HS⟩
    isplitl [HS Hg]
    · isplitl [HS]
      · iapply (scr_out m c t); iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [scr_in m c t h]
    simp only [before0_5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (body_next c (grid0.coords t) _ _ _ _ _ _ _ _ _ _ _ _ _ _ (iblk m c 2 t) (fun hc => h ((cond_iff t).mp hc)) (xn m c t) Set.univ _)
    isplitl [H2]; · iexact H2
    isplitl [H4]; · iexists _; iexact H4
    isplitl [HS]; · iexact HS
    iintro ⟨H2, H4, HS⟩
    isplitl [HS Hg]
    · isplitl [HS]
      · iapply (scr_out m c t); iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_after m c t h); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA0_eq (c : Dev nD) : (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

set_option backward.isDefEq.respectTransparency.types false in
/-- The launch: every array of the pipeline, every other buffer after the host tail, and the counters. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_at, scr_at m c _ rfl, PhiA0_eq])
    (hout := fun c => by rw [Phi_at, scr_at m c _ rfl, PhiA0_eq])

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Np
-- ==== Proof.NormSample.lean ====
module

public import proofs.«01_k».proof.Proof.NormPrompt
public import proofs.«01_k».proof.Proof.NormSampleRun
public import proofs.«01_k».proof.Proof.Gen.Reference4Ideal.Read
public import Idealize.ShloMosaic.Lib.Claim
public import Idealize.ShloMosaic.Lib.Pointwise
public import Idealize.ShloMosaic.Lib.Pipeline.ValueKit
@[expose] public section

set_option maxRecDepth 16384
noncomputable section
namespace Cert.Kernel4Ideal.Np
open Cert.Kernel4Ideal Cert.Kernel4Ideal.Gen
open Cert.Kernel2Ideal.Np (nrm packed col packed_col gain_read)
open Idealize.ShloMosaic Idealize.ShloMosaic.TcCoe Idealize.SL.Sem
open Idealize.ShloMosaic.Pipeline (Dat)

theorem pay1_eq (x : Vec Ideal S128x1024 .f32) (g : Vec Ideal S1x1024 .f32) (r : Fin 128) (k : Fin 1024) :
    k0_pay1 x g (ix2 r k) = nrm (fun l => x (ix2 r l)) (fun l => g (ix2 0 l)) k := by
  pointwise [k0_pay1, nrm]
theorem pay3_eq (a : Vec Ideal S128x1024 .bf16) (w : Vec Ideal S1024x2048 .bf16) (r : Fin 128) (j : Fin 2048) :
    k0_pay3 a w (ix2 r j) = ∑ k : Fin 1024, a (ix2 r k) * w (ix2 k j) := by
  pointwise [k0_pay3]

section Ref
open Cert.Reference4Ideal.Read
variable (X : FVec Ideal S128x1x1024 .f32) (G : FVec Ideal S1x1024 .f32) (W : FVec Ideal S1x1024x5896 .f32) (C : FVec Ideal S1x128x3x1536 .f32)

/-- The projection of the normalised row of sequence `b` to column `j`. -/
def proj (b : Fin 128) (j : Fin 5896) : EReal :=
  ∑ k : Fin 1024, nrm (fun l => X (ix3 b 0 l)) (fun l => G (ix2 0 l)) k * W (ix3 0 k j)

theorem ref_norm (b : Fin 128) (k : Fin 1024) : val_main_v13 (F := Ideal) X G (ix3 b 0 k) = nrm (fun l => X (ix3 b 0 l)) (fun l => G (ix2 0 l)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]
theorem ref_proj (b : Fin 128) (j : Fin 5896) : val_main_v15 (F := Ideal) X G W (ix3 b 0 j) = proj X G W b j := by
  pointwise [val_main_v15, val_main_v14, ref_norm, proj]
end Ref

theorem rows_read (x : FVec Ideal S128x1x1024 .f32) (b : Fin 128) (j : Fin 1024) :
    shapeCast S128x1024 x shapeCasts_S128x1x1024_S128x1024 (ix2 b j) = x (ix3 b 0 j) := by
  pointwise []

variable (m : (ℓ : Loc nD τ sig) → Buf (Elt Ideal) ℓ) (ρ : Dev nD → PrngReg)

theorem V8 (c : Dev nD) : V m c main_v8 = (truncf .bf16 (packed (m ((c : Thread nD τ).loc main_arg2))) bitsLt_bf16_f32 : FVec Ideal S1024x6144 .bf16) := by
  unfold packed
  rfl
theorem V14 (c : Dev nD) : V m c main_v14 = (broadcastInDim S1x1024 ![1] bcast_S1024_S1x1024_1
    (shapeCast S1024 (m ((c : Thread nD τ).loc main_arg1) : FVec Ideal S1x1024 .f32) shapeCasts_S1x1024_S1024) : FVec Ideal S1x1024 .f32) := rfl
theorem V15 (c : Dev nD) : V m c main_v15 = (shapeCast S128x1024 (m ((c : Thread nD τ).loc main_arg0) : FVec Ideal S128x1x1024 .f32) shapeCasts_S128x1x1024_S128x1024 : FVec Ideal S128x1024 .f32) := rfl

theorem idx : ∀ t : Fin cfg0.N, win0_0.index t = ![0, 0] ∧ win0_1.index t = ![0, 0] ∧ win0_2.index t = ![0, t.val % 3]
    ∧ win0_4.index t = ![0, t.val % 3] :=
  (by decide +kernel : ∀ t : Fin grid0.N, _)

section
variable (c : Dev nD) (t : Fin cfg0.N)

theorem blk0 (r : Fin 128) (j : Fin 1024) : (iblk m c 0 t : Vec Ideal S128x1024 .f32) (ix2 r j) = (m ((c : Thread nD τ).loc main_arg0) : Vec Ideal S128x1x1024 .f32) (ix3 r 0 j) := by
  have e : (win0_0.blk t).view.emb (ix2 r j) = (ix2 r j : S128x1024.Idx) := by
    blk_ext [idx t]
  refine (congrArg (V m c main_v15) e).trans ?_
  rw [V15]
  exact rows_read ..
theorem blk1 (j : Fin 1024) : (iblk m c 1 t : Vec Ideal S1x1024 .f32) (ix2 0 j) = (m ((c : Thread nD τ).loc main_arg1) : Vec Ideal S1x1024 .f32) (ix2 0 j) := by
  have e : (win0_1.blk t).view.emb (ix2 0 j) = (ix2 0 j : S1x1024.Idx) := by
    blk_ext [idx t]
  refine (congrArg (V m c main_v14) e).trans ?_
  rw [V14]
  exact gain_read ..
theorem blk2 (k : Fin 1024) (j : Fin 2048) : (iblk m c 2 t : Vec Ideal S1024x2048 .bf16) (ix2 k j)
    = packed (m ((c : Thread nD τ).loc main_arg2)) (ix2 k ⟨2048 * (t.val % 3) + j.val, by omega⟩) := by
  have e : (win0_2.blk t).view.emb (ix2 k j) = (ix2 k ⟨2048 * (t.val % 3) + j.val, by omega⟩ : S1024x6144.Idx) := by
    blk_ext [idx t]
  refine (congrArg (V m c main_v8) e).trans ?_
  rw [V8]
  rfl
end

/-- The whole packed projection. -/
def full (X : FVec Ideal S128x1x1024 .f32) (G : FVec Ideal S1x1024 .f32) (W : FVec Ideal S1x1024x5896 .f32) : FVec Ideal S128x6144 .f32 := fun i =>
  ∑ k : Fin 1024, nrm (fun l => X (ix3 (i 0) 0 l)) (fun l => G (ix2 0 l)) k * packed W (ix2 k (i 1))

/-- A column of the packed projection that is column `q` of the projection. -/
theorem full_col (X : FVec Ideal S128x1x1024 .f32) (G : FVec Ideal S1x1024 .f32) (W : FVec Ideal S1x1024x5896 .f32) (b : Fin 128) (j : Fin 6144) (q : Fin 5896)
    (h : j.val < 3848 ∨ 4096 ≤ j.val) (hq : col j.val = q.val) : full X G W (ix2 b j) = Cert.Reference4Ideal.Read.val_main_v15 (F := Ideal) X G W (ix3 b 0 q) := by
  rw [ref_proj]
  have hc : col j.val < 5896 := hq ▸ q.isLt
  rw [← (Fin.ext hq : (⟨col j.val, hc⟩ : Fin 5896) = q)]
  show ∑ k : Fin 1024, nrm (fun l => X (ix3 b 0 l)) (fun l => G (ix2 0 l)) k * packed W (ix2 k j) = _
  unfold proj
  simp only [packed_col W _ j h hc]

theorem xn_eq (c : Dev nD) (t : Fin cfg0.N) (r : Fin 128) (k : Fin 1024) : xn m c t (ix2 r k)
    = nrm (fun l => (m ((c : Thread nD τ).loc main_arg0) : Vec Ideal S128x1x1024 .f32) (ix3 r 0 l)) (fun l => (m ((c : Thread nD τ).loc main_arg1) : Vec Ideal S1x1024 .f32) (ix2 0 l)) k := by
  unfold xn
  refine (pay1_eq _ _ r k).trans ?_
  simp only [blk0, blk1]

/-- Every cell of the packed projection. -/
theorem final4 (c : Dev nD) : (dats m 0 c).arrAt 4 (cfgs 0).N
    = full (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  have e : ((cfg0.win 4).blk t).view.emb (ix2 y0 y1) = (ix2 y0 ⟨2048 * (t.val % 3) + y1.val, by omega⟩ : S128x6144.Idx) := by
    blk_ext [idx t]
  refine Eq.trans ?_ (congrArg (full _ _ _) e).symm
  blk_simp
  rw [after0_4]
  refine (pay3_eq _ _ y0 y1).trans ?_
  simp only [xn_eq, blk2]
  rfl

/-! ## What the host makes of it -/

/-- The new convolution cache: the last two rows of the old one, and the row just projected. -/
def convCache (Y : FVec Ideal S128x6144 .f32) (C : FVec Ideal S1x128x3x1536 .f32) : FVec Ideal S1x128x3x1536 .f32 :=
  broadcastInDim S1x128x3x1536 ![1, 2, 3] bcast_S128x3x1536_S1x128x3x1536_1_2_3
    (concatenate S128x3x1536 1 [⟨S128x2x1536, extractStridedSlice S128x2x1536 ![0, 1, 0] (shapeCast S128x3x1536 C shapeCasts_S1x128x3x1536_S128x3x1536) slices_S128x3x1536_S128x2x1536_0_1_0⟩,
      ⟨S128x1x1536, broadcastInDim S128x1x1536 ![0, 2] bcast_S128x1536_S128x1x1536_0_2 (extractStridedSlice S128x1536 ![0, 0] Y slices_S128x6144_S128x1536_0_0)⟩]
      concatenates_S128x2x1536_S128x1x1536_S128x3x1536_d1)
/-- The new shift cache: the row just projected. -/
def shiftCache (Y : FVec Ideal S128x6144 .f32) : FVec Ideal S1x128x1x1792 .f32 :=
  broadcastInDim S1x128x1x1792 ![1, 2, 3] bcast_S128x1x1792_S1x128x1x1792_1_2_3
    (broadcastInDim S128x1x1792 ![0, 2] bcast_S128x1792_S128x1x1792_0_2 (extractStridedSlice S128x1792 ![0, 2048] Y slices_S128x6144_S128x1792_0_2048))

section Caches
open Cert.Reference4Ideal.Read
variable (X : FVec Ideal S128x1x1024 .f32) (G : FVec Ideal S1x1024 .f32) (W : FVec Ideal S1x1024x5896 .f32) (C : FVec Ideal S1x128x3x1536 .f32)

theorem conv_eq : convCache (full X G W) C = val_main_v20 (F := Ideal) X G W C := by
  funext y; idx_vars y
  pointwise [convCache, val_main_v20, val_main_v19, val_main_v18, val_main_v17, val_main_v16]
  by_cases h : y2.val < 2
  · rw [dif_pos h, dif_pos (by omega)]
  · rw [dif_neg h, dif_neg (by omega), full_col X G W _ _ ⟨y3.val, by omega⟩ (Or.inl (by dsimp only; omega)) (by unfold col; dsimp only; split_ifs <;> omega)]
    exact congrArg (fun q => val_main_v15 (F := Ideal) X G W (ix3 y1 q ⟨y3.val, _⟩)) (Subsingleton.elim _ _)
theorem shift_eq : shiftCache (full X G W) = val_main_v22 (F := Ideal) X G W := by
  funext y; idx_vars y
  pointwise [shiftCache, val_main_v22, val_main_v21]
  exact full_col X G W _ _ _ (Or.inl (by dsimp only; omega)) (by unfold col; dsimp only; split_ifs <;> omega)
end Caches

section Host
variable (ψ : Valuation τ sig (Elt Ideal))
theorem host24 : StableHlo.after (List.flatten [hostOps1]) ψ (Proc.devRef .tc main_v24)
    = convCache (ψ (Proc.devRef .tc main_v16_0)) (ψ (Proc.devRef .tc main_arg3)) := by unfold convCache; rfl
theorem host25 : StableHlo.after (List.flatten [hostOps1]) ψ (Proc.devRef .tc main_v25)
    = shiftCache (ψ (Proc.devRef .tc main_v16_0)) := by unfold shiftCache; rfl
end Host

/-- The packed projection and the old cache as the host operations find them. -/
theorem arr4 (c : Dev nD) : Pipeline.withArrays (cfgs 0).spec c (V0 m c) (fun w => (dats m 0 c).arrAt w (cfgs 0).N) (Proc.devRef .tc main_v16_0)
    = full (m ((c : Thread nD τ).loc main_arg0)) (m ((c : Thread nD τ).loc main_arg1)) (m ((c : Thread nD τ).loc main_arg2)) :=
  (Pipeline.withArrays_arr (cfgs 0).spec launch0.win.arr_inj c (V0 m c) (fun w => (dats m 0 c).arrAt w (cfgs 0).N) 4).trans (final4 m c)
theorem old3 (c : Dev nD) : Pipeline.withArrays (cfgs 0).spec c (V0 m c) (fun w => (dats m 0 c).arrAt w (cfgs 0).N) (Proc.devRef .tc main_arg3)
    = m ((c : Thread nD τ).loc main_arg3) :=
  (Pipeline.withArrays_of_ne (cfgs 0).spec c (V0 m c) _ main_arg3 (by exact (by decide : ∀ w, Pipeline.arrRef spec0 w ≠ main_arg3))).trans (V_main_arg3 m c)

/-- The run, with every result the value of the plain reference of the arguments. -/
theorem run_values : θ_run (defs (F := Ideal)) (onTc (τ := τ) (main (F := Ideal))) ⟨m, fun _ => 0, ρ⟩ (fun r => ∀ c : Dev nD,
    r.2.mem ((c.tc : Thread nD τ).loc main_v24) = Cert.Reference4Ideal.Read.val_main_v20 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v25) = Cert.Reference4Ideal.Read.val_main_v22 (F := Ideal) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ?_) (run_main (F := Ideal) m ρ)
  refine ⟨?_, ?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  · refine ((h c).2 main_v24 (Pipeline.mem_restRefs_of main_v24 (by decide) (by decide))).trans ((host24 _).trans ?_)
    rw [arr4, old3]; exact conv_eq _ _ _ _
  · refine ((h c).2 main_v25 (Pipeline.mem_restRefs_of main_v25 (by decide) (by decide))).trans ((host25 _).trans ?_)
    rw [arr4]; exact shift_eq _ _ _

end Cert.Kernel4Ideal.Np
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.DnValue
public import proofs.«01_k».proof.Proof.NormPromptTail
public import proofs.«01_k».proof.Proof.Merge
public import proofs.«01_k».proof.Proof.NormSample
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_Kernel : Cert.quiescent_Kernel (hKernel := Cert.Kernel.Gen.facts) := fun m g _ => Cert.Kernel.Gen.frame m g
theorem frame_KernelIdeal : Cert.quiescent_KernelIdeal (hKernelIdeal := Cert.KernelIdeal.Gen.facts) := fun m g _ => Cert.KernelIdeal.Gen.frame m g
open Idealize.ShloMosaic.TcCoe in
/-- The reference's run, its two results as the named stages of the arguments. -/
theorem run_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v117) = Cert.ReferenceIdeal.Read.val_main_v117 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v95) = Cert.ReferenceIdeal.Read.val_main_v95 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  refine (θ_run _ _ _).mono (fun r h c => ?_) (Cert.ReferenceIdeal.Value.run (F := Ideal) m g)
  obtain ⟨h0, h1, h2⟩ := h c
  exact ⟨h0.trans (Cert.ReferenceIdeal.Read.val_main_v117_eq (F := Ideal) (StableHlo.launchContents m c)),
    h1.trans (Cert.ReferenceIdeal.Read.val_main_v95_eq (F := Ideal) (StableHlo.launchContents m c)), h2⟩

theorem frame_ReferenceIdeal : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩) (run_ReferenceIdeal m g)

theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from run_ReferenceIdeal m' g'
    · exact (Cert.KernelIdeal.Dn.final7 m c).symm
    · exact (Cert.KernelIdeal.Dn.final8 m c).symm

theorem frame_Kernel2Ideal : Cert.quiescent_Kernel2Ideal (hKernel2Ideal := Cert.Kernel2Ideal.Gen.facts) := fun m g _ => Cert.Kernel2Ideal.Np.frame m g
/-- The two programs of the prompt's projection have the same bodies, at the machine's own floats too. -/
theorem defs_Kernel2 : Cert.Kernel2.defs (F := Bits) = Cert.Kernel2Ideal.defs (F := Bits) :=
  congrArg (Pipeline.defs Cert.Kernel2Ideal.pcfgs) (congrArg Defs.onTc (funext fun l => match l with | 0 => rfl))
theorem frame_Kernel2 : Cert.quiescent_Kernel2 (hKernel2 := Cert.Kernel2.Gen.facts) := fun m g _ => by
  rw [defs_Kernel2]
  exact (θ_run Cert.Kernel2Ideal.defs _ _).mono (fun _ h => h) (Cert.Kernel2Ideal.Np.frame (F := Bits) m g)
open Idealize.ShloMosaic.TcCoe in
/-- The run of reference 2, its results as the named stages of the arguments. -/
theorem run_Reference2Ideal (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v16) = Cert.Reference2Ideal.Read.val_main_v16 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v17) = Cert.Reference2Ideal.Read.val_main_v17 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v18) = Cert.Reference2Ideal.Read.val_main_v18 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v19) = Cert.Reference2Ideal.Read.val_main_v19 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v22) = Cert.Reference2Ideal.Read.val_main_v22 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v24) = Cert.Reference2Ideal.Read.val_main_v24 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v26) = Cert.Reference2Ideal.Read.val_main_v26 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)) := by
  refine (θ_run _ _ _).mono (fun r h c => ?_) (Cert.Reference2Ideal.Value.run (F := Ideal) m g)
  obtain ⟨h0, h1, h2, h3, h4, h5, h6, h7⟩ := h c
  exact ⟨h0.trans (Cert.Reference2Ideal.Read.val_main_v16_eq (F := Ideal) _ _ _),
    h1.trans (Cert.Reference2Ideal.Read.val_main_v17_eq (F := Ideal) _ _ _),
    h2.trans (Cert.Reference2Ideal.Read.val_main_v18_eq (F := Ideal) _ _ _),
    h3.trans (Cert.Reference2Ideal.Read.val_main_v19_eq (F := Ideal) _ _ _),
    h4.trans (Cert.Reference2Ideal.Read.val_main_v22_eq (F := Ideal) _ _ _),
    h5.trans (Cert.Reference2Ideal.Read.val_main_v24_eq (F := Ideal) _ _ _),
    h6.trans (Cert.Reference2Ideal.Read.val_main_v26_eq (F := Ideal) _ _ _), h7⟩

theorem frame_Reference2Ideal : Cert.quiescent_Reference2Ideal (hReference2Ideal := Cert.Reference2Ideal.Gen.facts) := by
  intro m g _
  exact (θ_run _ _ _).mono (fun r h => ⟨fun c => (h c).2.2.2.2.2.2.2, sem_eq_zero_of_no_sems (by decide) r.2⟩) (run_Reference2Ideal m g)

theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Np.run_values m g
  · run_from run_Reference2Ideal m' g'

theorem frame_Kernel3 : Cert.quiescent_Kernel3 (hKernel3 := Cert.Kernel3.Gen.facts) := fun m g _ => Cert.Kernel3.Gen.frame m g
theorem frame_Kernel3Ideal : Cert.quiescent_Kernel3Ideal (hKernel3Ideal := Cert.Kernel3Ideal.Gen.facts) := fun m g _ => Cert.Kernel3Ideal.Gen.frame m g
open Idealize.ShloMosaic.TcCoe in
/-- The run of reference 3, its results as the named stages of the arguments. -/
theorem run_Reference3Ideal (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v26) = Cert.Reference3Ideal.Read.val_main_v26 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)) := by
  refine (θ_run _ _ _).mono (fun r h c => ?_) (Cert.Reference3Ideal.Value.run (F := Ideal) m g)
  obtain ⟨h0, h1⟩ := h c
  exact ⟨h0.trans (Cert.Reference3Ideal.Read.val_main_v26_eq (F := Ideal) _ _ _ _ _ _ _), h1⟩

theorem frame_Reference3Ideal : Cert.quiescent_Reference3Ideal (hReference3Ideal := Cert.Reference3Ideal.Gen.facts) := by
  intro m g _
  exact (θ_run _ _ _).mono (fun r h => ⟨fun c => (h c).2, sem_eq_zero_of_no_sems (by decide) r.2⟩) (run_Reference3Ideal m g)

theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from run_Reference3Ideal m' g'
    · exact (Cert.Kernel3Ideal.Mg.final7 m c).symm

theorem frame_Kernel4Ideal : Cert.quiescent_Kernel4Ideal (hKernel4Ideal := Cert.Kernel4Ideal.Gen.facts) := fun m g _ => Cert.Kernel4Ideal.Np.frame m g
/-- The two programs of the sample's projection have the same bodies, at the machine's own floats too. -/
theorem defs_Kernel4 : Cert.Kernel4.defs (F := Bits) = Cert.Kernel4Ideal.defs (F := Bits) :=
  congrArg (Pipeline.defs Cert.Kernel4Ideal.pcfgs) (congrArg Defs.onTc (funext fun l => match l with | 0 => rfl))
theorem frame_Kernel4 : Cert.quiescent_Kernel4 (hKernel4 := Cert.Kernel4.Gen.facts) := fun m g _ => by
  rw [defs_Kernel4]
  exact (θ_run Cert.Kernel4Ideal.defs _ _).mono (fun _ h => h) (Cert.Kernel4Ideal.Np.frame (F := Bits) m g)
open Idealize.ShloMosaic.TcCoe in
/-- The run of reference 4, its results as the named stages of the arguments. -/
theorem run_Reference4Ideal (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_v20) = Cert.Reference4Ideal.Read.val_main_v20 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v22) = Cert.Reference4Ideal.Read.val_main_v22 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)) := by
  refine (θ_run _ _ _).mono (fun r h c => ?_) (Cert.Reference4Ideal.Value.run (F := Ideal) m g)
  obtain ⟨h0, h1, h2⟩ := h c
  exact ⟨h0.trans (Cert.Reference4Ideal.Read.val_main_v20_eq (F := Ideal) _ _ _ _),
    h1.trans (Cert.Reference4Ideal.Read.val_main_v22_eq (F := Ideal) _ _ _), h2⟩

theorem frame_Reference4Ideal : Cert.quiescent_Reference4Ideal (hReference4Ideal := Cert.Reference4Ideal.Gen.facts) := by
  intro m g _
  exact (θ_run _ _ _).mono (fun r h => ⟨fun c => (h c).2.2, sem_eq_zero_of_no_sems (by decide) r.2⟩) (run_Reference4Ideal m g)

theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Np.run_values m g
  · run_from run_Reference4Ideal m' g'

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  frame_Kernel, frame_KernelIdeal, frame_ReferenceIdeal, frame_Kernel2, frame_Kernel2Ideal, frame_Reference2Ideal, frame_Kernel3, frame_Kernel3Ideal, frame_Reference3Ideal, frame_Kernel4, frame_Kernel4Ideal, frame_Reference4Ideal,
  trivial, algebraic, trivial, algebraic2, trivial, algebraic3, trivial, algebraic4⟩

end Cert.Proof
